-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_above_bottom [hPre_scores_above_bottom : Cert.Pre_scores_above_bottom.Facts] (m : (ℓ : Loc Cert.KernelIdeal.nD Cert.KernelIdeal.τ Cert.KernelIdeal.sig) → Buf (Elt Ideal) ℓ) : Prop :=
  ∀ c : Dev Cert.KernelIdeal.nD,
    (Cert.Pre_scores_above_bottom.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_above_bottom [hPre_scores_above_bottom : Cert.Pre_scores_above_bottom.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_above_bottom.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_above_bottom [hKernelIdeal : Cert.KernelIdeal.Facts] [hPre_scores_above_bottom : Cert.Pre_scores_above_bottom.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_above_bottom m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_above_bottom [hReferenceIdeal : Cert.ReferenceIdeal.Facts] [hPre_scores_above_bottom : Cert.Pre_scores_above_bottom.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_above_bottom m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scores_above_bottom [hKernelIdeal : Cert.KernelIdeal.Facts] [hReferenceIdeal : Cert.ReferenceIdeal.Facts] [hPre_scores_above_bottom : Cert.Pre_scores_above_bottom.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_above_bottom m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_values) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scores_above_bottom : Cert.Pre_scores_above_bottom.Facts),
    quiescent_Kernel (hKernel := hKernel)
    ∧ quiescent_KernelIdeal (hKernelIdeal := hKernelIdeal)
    ∧ quiescent_KernelIdeal_pre_scores_above_bottom (hKernelIdeal := hKernelIdeal) (hPre_scores_above_bottom := hPre_scores_above_bottom)
    ∧ quiescent_ReferenceIdeal (hReferenceIdeal := hReferenceIdeal)
    ∧ quiescent_ReferenceIdeal_pre_scores_above_bottom (hReferenceIdeal := hReferenceIdeal) (hPre_scores_above_bottom := hPre_scores_above_bottom)
    ∧ preserves_Kernel_KernelIdeal
    ∧ algebraic_KernelIdeal_ReferenceIdeal_pre_scores_above_bottom (hKernelIdeal := hKernelIdeal) (hReferenceIdeal := hReferenceIdeal) (hPre_scores_above_bottom := hPre_scores_above_bottom)
-- ==== Pre_scores_above_bottom.lean ====
abbrev S4x2048x128 : Shape := ⟨3, ![4, 2048, 128]⟩
abbrev S1 : Shape := ⟨1, ![1]⟩
abbrev S_ : Shape := ⟨0, ![]⟩
abbrev S4x2048x2048 : Shape := ⟨3, ![4, 2048, 2048]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn {F : FTy → Type} [FloatOps F] (main_arg0 : FVec F S4x2048x128 .f32) (main_arg1 : FVec F S1 .f32) (main_arg2 : FVec F S_ .f32) (main_arg3 : FVec F S4x2048x2048 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_cst_0 : FVec F S_ .f32 := constant S_ .f32 0x3F800000#32
  let main_v4 : FVec F S4x2048x2048 .f32 := broadcastInDim S4x2048x2048 ![] bcast_S_S4x2048x2048 main_cst_0
  let main_v5 : IVec S4x2048x2048 1 := cmpf .olt main_arg3 main_v4
  let main_c_1 : IVec S_ 1 := constantI S_ 1 1#1
  let main_v6 : IVec S_ 1 := (fun x v => Host.reduce IntOp.andi x v reducesTo_S4x2048x2048_S_d0_1_2 h_S_) main_v5 main_c_1
  let main_v7 : IVec S_ 1 := andi main_v3 main_v6
  main_v7
-- ==== Kernel.lean ====
abbrev S4x2048x128 : Shape := ⟨3, ![4, 2048, 128]⟩
abbrev S1 : Shape := ⟨1, ![1]⟩
abbrev S_ : Shape := ⟨0, ![]⟩
abbrev S4x2048x2048 : Shape := ⟨3, ![4, 2048, 2048]⟩
abbrev S4x2048x16 : Shape := ⟨3, ![4, 2048, 16]⟩
abbrev S1x512x128 : Shape := ⟨3, ![1, 512, 128]⟩
abbrev S1x2048x128 : Shape := ⟨3, ![1, 2048, 128]⟩
abbrev S1x512x2048 : Shape := ⟨3, ![1, 512, 2048]⟩
abbrev S1x512x16 : Shape := ⟨3, ![1, 512, 16]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S128x512 : Shape := ⟨2, ![128, 512]⟩
abbrev S1x512 : Shape := ⟨2, ![1, 512]⟩
abbrev S16x512 : Shape := ⟨2, ![16, 512]⟩
abbrev S512x16 : Shape := ⟨2, ![512, 16]⟩
abbrev S1x1x1 : Shape := ⟨3, ![1, 1, 1]⟩
abbrev S1x2048x1 : Shape := ⟨3, ![1, 2048, 1]⟩
abbrev S4x32768 : Shape := ⟨2, ![4, 32768]⟩
abbrev S4x1x32768 : Shape := ⟨3, ![4, 1, 32768]⟩
abbrev S4x2x32768 : Shape := ⟨3, ![4, 2, 32768]⟩
abbrev S4 : Shape := ⟨1, ![4]⟩
abbrev S4x1x1 : Shape := ⟨3, ![4, 1, 1]⟩
abbrev S2x4x32768 : Shape := ⟨3, ![2, 4, 32768]⟩
abbrev S2x131072 : Shape := ⟨2, ![2, 131072]⟩

abbrev nBuf : Space → Nat
  | .hbm => 31
  | .vmem => 10
  | .smem => 1
  | _ => 0

abbrev bufTy : (tb : Table) → Fin (tcTables nBuf tb) → BufTy
  | .hbm, ⟨0, _⟩ => ⟨S4x2048x128, .f32⟩
  | .hbm, ⟨1, _⟩ => ⟨S1, .f32⟩
  | .hbm, ⟨2, _⟩ => ⟨S_, .f32⟩
  | .hbm, ⟨3, _⟩ => ⟨S4x2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S4x2048x16, .f32⟩
  | .hbm, ⟨13, _⟩ => ⟨S4x2048x16, .i32⟩
  | .hbm, ⟨14, _⟩ => ⟨S2048, .i32⟩
  | .hbm, ⟨15, _⟩ => ⟨S1x2048x1, .i32⟩
  | .hbm, ⟨16, _⟩ => ⟨S4x2048x16, .i32⟩
  | .hbm, ⟨17, _⟩ => ⟨S4x32768, .i32⟩
  | .hbm, ⟨18, _⟩ => ⟨S4x32768, .i32⟩
  | .hbm, ⟨19, _⟩ => ⟨S4x1x32768, .i32⟩
  | .hbm, ⟨20, _⟩ => ⟨S4x1x32768, .i32⟩
  | .hbm, ⟨21, _⟩ => ⟨S4x2x32768, .i32⟩
  | .hbm, ⟨22, _⟩ => ⟨S4, .i32⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S4x1x1, .i32⟩
  | .hbm, ⟨27, _⟩ => ⟨S4x2x32768, .i32⟩
  | .hbm, ⟨28, _⟩ => ⟨S4x2x32768, .i32⟩
  | .hbm, ⟨29, _⟩ => ⟨S2x4x32768, .i32⟩
  | .hbm, ⟨30, _⟩ => ⟨S2x131072, .i32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x512x2048, .f32⟩
  | .local _ .vmem, ⟨5, _⟩ => ⟨S1x512x2048, .f32⟩
  | .local _ .vmem, ⟨6, _⟩ => ⟨S1x512x16, .f32⟩
  | .local _ .vmem, ⟨7, _⟩ => ⟨S1x512x16, .f32⟩
  | .local _ .vmem, ⟨8, _⟩ => ⟨S1x512x16, .i32⟩
  | .local _ .vmem, ⟨9, _⟩ => ⟨S1x512x16, .i32⟩
  | .local _ .smem, ⟨0, _⟩ => ⟨S1, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x2048x128 : Shape := ⟨3, ![4, 2048, 128]⟩
abbrev S1 : Shape := ⟨1, ![1]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩
abbrev S4x1x2048 : Shape := ⟨3, ![4, 1, 2048]⟩
abbrev S4x2048x16 : Shape := ⟨3, ![4, 2048, 16]⟩
abbrev S2048 : Shape := ⟨1, ![2048]⟩
abbrev S1x2048x1 : Shape := ⟨3, ![1, 2048, 1]⟩
abbrev S4x32768 : Shape := ⟨2, ![4, 32768]⟩
abbrev S4x1x32768 : Shape := ⟨3, ![4, 1, 32768]⟩
abbrev S4x2x32768 : Shape := ⟨3, ![4, 2, 32768]⟩
abbrev S4 : Shape := ⟨1, ![4]⟩
abbrev S4x1x1 : Shape := ⟨3, ![4, 1, 1]⟩
abbrev S2x4x32768 : Shape := ⟨3, ![2, 4, 32768]⟩
abbrev S2x131072 : Shape := ⟨2, ![2, 131072]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S1, .f32⟩
  | .hbm, ⟨2, _⟩ => ⟨S_, .f32⟩
  | .hbm, ⟨3, _⟩ => ⟨S4x2048x2048, .f32⟩
  | .hbm, ⟨4, _⟩ => ⟨S4x2048x128, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S4x1x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S4x2048x16, .f32⟩
  | .hbm, ⟨35, _⟩ => ⟨S4x2048x16, .i32⟩
  | .hbm, ⟨36, _⟩ => ⟨S2048, .i32⟩
  | .hbm, ⟨37, _⟩ => ⟨S1x2048x1, .i32⟩
  | .hbm, ⟨38, _⟩ => ⟨S4x2048x16, .i32⟩
  | .hbm, ⟨39, _⟩ => ⟨S4x32768, .i32⟩
  | .hbm, ⟨40, _⟩ => ⟨S4x32768, .i32⟩
  | .hbm, ⟨41, _⟩ => ⟨S4x1x32768, .i32⟩
  | .hbm, ⟨42, _⟩ => ⟨S4x1x32768, .i32⟩
  | .hbm, ⟨43, _⟩ => ⟨S4x2x32768, .i32⟩
  | .hbm, ⟨44, _⟩ => ⟨S4, .i32⟩
  | .hbm, ⟨45, _⟩ => ⟨S_, .i32⟩
  | .hbm, ⟨46, _⟩ => ⟨S4, .i32⟩
  | .hbm, ⟨47, _⟩ => ⟨S4, .i32⟩
  | .hbm, ⟨48, _⟩ => ⟨S4x1x1, .i32⟩
  | .hbm, ⟨49, _⟩ => ⟨S4x2x32768, .i32⟩
  | .hbm, ⟨50, _⟩ => ⟨S4x2x32768, .i32⟩
  | .hbm, ⟨51, _⟩ => ⟨S2x4x32768, .i32⟩
  | .hbm, ⟨52, _⟩ => ⟨S2x131072, .i32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_values : Ref sig .tc := ⟨.hbm, 34, rfl⟩
abbrev main_indices : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.Select.Model.lean ====
/-
  The kernel body's arithmetic in closed form, for any float instance.

  A block is 512 rows of 2048 scores. `chunks` cuts it in 16 chunks of 128 lanes; `round` takes each lane's best entry
  out of its 16; `heads` holds each lane's four best, transposed; `merge` takes the best head sixteen times; `outV`,
  `outI` and `badFlag` are what the body stores and what it branches on; `fbV`, `fbI` are what the fallback stores.
-/
module

public import proofs.«01_k».proof.Proof.Gen.KernelIdeal.Skeleton

@[expose] public section

noncomputable section

namespace Cert.KernelIdeal.Select

open Idealize.ShloMosaic Idealize.SL.Sem Cert.KernelIdeal
open Facts₀ Facts

variable [Facts] {F : FTy → Type} [FloatOps F]

/-- The word of −∞. -/
abbrev negInf : F .f32 := Scalar.ofBits .f32 0xFF800000#32

/-- The binary32 words of the chunk numbers 0 … 15. -/
def chunkWord : Fin 16 → BitVec 32 :=
  ![0x00000000#32, 0x3F800000#32, 0x40000000#32, 0x40400000#32, 0x40800000#32, 0x40A00000#32, 0x40C00000#32, 0x40E00000#32,
    0x41000000#32, 0x41100000#32, 0x41200000#32, 0x41300000#32, 0x41400000#32, 0x41500000#32, 0x41600000#32, 0x41700000#32]

/-- The block cut in its 16 chunks of 128 lanes. -/
def chunks (S : FVec F S512x2048 .f32) : Fin 16 → FVec F S512x128 .f32 :=
  ![extractStridedSlice S512x128 ![0, 0] S slices_S512x2048_o0_0_S512x128,
    extractStridedSlice S512x128 ![0, 128] S slices_S512x2048_o0_128_S512x128,
    extractStridedSlice S512x128 ![0, 256] S slices_S512x2048_o0_256_S512x128,
    extractStridedSlice S512x128 ![0, 384] S slices_S512x2048_o0_384_S512x128,
    extractStridedSlice S512x128 ![0, 512] S slices_S512x2048_o0_512_S512x128,
    extractStridedSlice S512x128 ![0, 640] S slices_S512x2048_o0_640_S512x128,
    extractStridedSlice S512x128 ![0, 768] S slices_S512x2048_o0_768_S512x128,
    extractStridedSlice S512x128 ![0, 896] S slices_S512x2048_o0_896_S512x128,
    extractStridedSlice S512x128 ![0, 1024] S slices_S512x2048_o0_1024_S512x128,
    extractStridedSlice S512x128 ![0, 1152] S slices_S512x2048_o0_1152_S512x128,
    extractStridedSlice S512x128 ![0, 1280] S slices_S512x2048_o0_1280_S512x128,
    extractStridedSlice S512x128 ![0, 1408] S slices_S512x2048_o0_1408_S512x128,
    extractStridedSlice S512x128 ![0, 1536] S slices_S512x2048_o0_1536_S512x128,
    extractStridedSlice S512x128 ![0, 1664] S slices_S512x2048_o0_1664_S512x128,
    extractStridedSlice S512x128 ![0, 1792] S slices_S512x2048_o0_1792_S512x128,
    extractStridedSlice S512x128 ![0, 1920] S slices_S512x2048_o0_1920_S512x128]

/-- Lane by lane the maximum of the chunks. -/
def chunkMax (ch : Fin 16 → FVec F S512x128 .f32) : FVec F S512x128 .f32 :=
  [1, 2, 3, 4, 5, 6, 7, 8, 9, 10, 11, 12, 13, 14, 15].foldl (fun m c => maximumf m (ch c)) (ch 0)

/-- Lane by lane the number, as a float, of the first chunk that equals the maximum. -/
def chunkArg (ch : Fin 16 → FVec F S512x128 .f32) : FVec F S512x128 .f32 :=
  [15, 14, 13, 12, 11, 10, 9, 8, 7, 6, 5, 4, 3, 2, 1, 0].foldl
    (fun a c => select (cmpf .oeq (ch c) (chunkMax ch)) (broadcast S512x128 (Scalar.ofBits .f32 (chunkWord c))) a)
    (broadcast S512x128 (Scalar.ofBits .f32 0x41800000#32))

/-- Lane by lane the taken entry overwritten with −∞. -/
def chunkNext (ch : Fin 16 → FVec F S512x128 .f32) (c : Fin 16) : FVec F S512x128 .f32 :=
  select (cmpf .oeq (chunkArg ch) (broadcast S512x128 (Scalar.ofBits .f32 (chunkWord c)))) (broadcast S512x128 negInf) (ch c)

/-- The chunks after `d` rounds. -/
def rounds (S : FVec F S512x2048 .f32) : ℕ → Fin 16 → FVec F S512x128 .f32
  | 0 => chunks S
  | d + 1 => chunkNext (rounds S d)

/-- Lane by lane the position in the row, as a float, of what the round takes. -/
def chunkPos (ch : Fin 16 → FVec F S512x128 .f32) : FVec F S512x128 .f32 :=
  addf (mulf (chunkArg ch) (broadcast S512x128 (Scalar.ofBits .f32 0x43000000#32)))
    (sitofp .f32 (iota .tc S512x128 32 [1] iota_S512x128_d1_w32))

/-- The four best of each lane, as the merge finds them: values and positions. -/
structure Heads (F : FTy → Type) where
  val : Fin 4 → FVec F S128x512 .f32
  pos : Fin 4 → FVec F S128x512 .f32

/-- The four rounds' results, transposed. -/
def heads (S : FVec F S512x2048 .f32) : Heads F where
  val d := transpose S128x512 [1, 0] (chunkMax (rounds S d.val)) transposes_S512x128_p1_0_S128x512
  pos d := transpose S128x512 [1, 0] (chunkPos (rounds S d.val)) transposes_S512x128_p1_0_S128x512

/-- The row's greatest head. -/
def mergeMax (h : Heads F) : FVec F S1x512 .f32 :=
  shapeCast S1x512 (multiReduction .maximumf [0] S512 (h.val 0) 0xFF800000#32 reduces_S128x512_S512 (.inl rfl) rfl) shapeCasts_S512_S1x512

/-- The least position, as a float, at which the greatest head is found. -/
def mergePos (h : Heads F) : FVec F S1x512 .f32 :=
  shapeCast S1x512 (multiReduction .minimumf [0] S512
    (select (cmpf .oeq (h.val 0) (broadcastTo S128x512 (mergeMax h) broadcasts_S1x512_S128x512)) (h.pos 0)
      (broadcast S128x512 (Scalar.sitofp .f32 2048#32))) 0x7F800000#32 reduces_S128x512_S512 (.inl rfl) rfl) shapeCasts_S512_S1x512

/-- The lane whose head is taken. -/
def mergeSel (h : Heads F) : IVec S128x512 1 :=
  cmpf .oeq (h.pos 0) (broadcastTo S128x512 (mergePos h) broadcasts_S1x512_S128x512)

/-- The taken lane moved up by one, −∞ behind its last. -/
def mergeNext (h : Heads F) : Heads F where
  val := ![select (mergeSel h) (h.val 1) (h.val 0), select (mergeSel h) (h.val 2) (h.val 1),
    select (mergeSel h) (h.val 3) (h.val 2), select (mergeSel h) (broadcast S128x512 negInf) (h.val 3)]
  pos := ![select (mergeSel h) (h.pos 1) (h.pos 0), select (mergeSel h) (h.pos 2) (h.pos 1),
    select (mergeSel h) (h.pos 3) (h.pos 2), h.pos 3]

/-- The heads after `k` steps. -/
def merge (S : FVec F S512x2048 .f32) : ℕ → Heads F
  | 0 => heads S
  | k + 1 => mergeNext (merge S k)

/-- The sixteen values taken, in order. -/
def mergedV (S : FVec F S512x2048 .f32) : FVec F S16x512 .f32 :=
  concatenate S16x512 0 [⟨S1x512, mergeMax (merge S 0)⟩, ⟨S1x512, mergeMax (merge S 1)⟩, ⟨S1x512, mergeMax (merge S 2)⟩, ⟨S1x512, mergeMax (merge S 3)⟩, ⟨S1x512, mergeMax (merge S 4)⟩, ⟨S1x512, mergeMax (merge S 5)⟩, ⟨S1x512, mergeMax (merge S 6)⟩, ⟨S1x512, mergeMax (merge S 7)⟩, ⟨S1x512, mergeMax (merge S 8)⟩, ⟨S1x512, mergeMax (merge S 9)⟩, ⟨S1x512, mergeMax (merge S 10)⟩, ⟨S1x512, mergeMax (merge S 11)⟩, ⟨S1x512, mergeMax (merge S 12)⟩, ⟨S1x512, mergeMax (merge S 13)⟩, ⟨S1x512, mergeMax (merge S 14)⟩, ⟨S1x512, mergeMax (merge S 15)⟩] concatenates_S1x512_S1x512_S1x512_S1x512_S1x512_S1x512_S1x512_S1x512_S1x512_S1x512_S1x512_S1x512_S1x512_S1x512_S1x512_S1x512_S16x512_d0

/-- The sixteen positions taken, in order, as floats. -/
def mergedI (S : FVec F S512x2048 .f32) : FVec F S16x512 .f32 :=
  concatenate S16x512 0 [⟨S1x512, mergePos (merge S 0)⟩, ⟨S1x512, mergePos (merge S 1)⟩, ⟨S1x512, mergePos (merge S 2)⟩, ⟨S1x512, mergePos (merge S 3)⟩, ⟨S1x512, mergePos (merge S 4)⟩, ⟨S1x512, mergePos (merge S 5)⟩, ⟨S1x512, mergePos (merge S 6)⟩, ⟨S1x512, mergePos (merge S 7)⟩, ⟨S1x512, mergePos (merge S 8)⟩, ⟨S1x512, mergePos (merge S 9)⟩, ⟨S1x512, mergePos (merge S 10)⟩, ⟨S1x512, mergePos (merge S 11)⟩, ⟨S1x512, mergePos (merge S 12)⟩, ⟨S1x512, mergePos (merge S 13)⟩, ⟨S1x512, mergePos (merge S 14)⟩, ⟨S1x512, mergePos (merge S 15)⟩] concatenates_S1x512_S1x512_S1x512_S1x512_S1x512_S1x512_S1x512_S1x512_S1x512_S1x512_S1x512_S1x512_S1x512_S1x512_S1x512_S1x512_S16x512_d0

/-- The values as the body first stores them. -/
def outV (S : FVec F S512x2048 .f32) : FVec F S1x512x16 .f32 :=
  shapeCast S1x512x16 (transpose S512x16 [1, 0] (mergedV S) transposes_S16x512_p1_0_S512x16) shapeCasts_S512x16_S1x512x16

/-- The positions as the body first stores them. -/
def outI (S : FVec F S512x2048 .f32) : IVec S1x512x16 32 :=
  shapeCast S1x512x16 (fptosi 32 (transpose S512x16 [1, 0] (mergedI S) transposes_S16x512_p1_0_S512x16)) shapeCasts_S512x16_S1x512x16

/-- At each row and lane: whether the lane has run out of heads while an entry left in it is at least the row's
    sixteenth value. -/
def badMask (S : FVec F S512x2048 .f32) : IVec S512x128 1 :=
  andi (cmpf .oeq (transpose S512x128 [1, 0] ((merge S 16).val 0) transposes_S128x512_p1_0_S512x128) (broadcast S512x128 negInf))
    (cmpf .oge (chunkMax (rounds S 4))
      (broadcastTo S512x128 (shapeCast S512x1 (shapeCast S512 (extractStridedSlice S1x512 ![15, 0] (mergedV S)
        slices_S16x512_o15_0_S1x512) shapeCasts_S1x512_S512) shapeCasts_S512_S512x1) broadcasts_S512x1_S512x128))

/-- The branch's condition: some row and lane of the mask. -/
def badFlag (S : FVec F S512x2048 .f32) : BitVec 1 :=
  Scalar.cmpi .ne (Scalar.extui (Scalar.cmpf .ogt (extractAt ![0, 0, 0] (shapeCast S1x1x1
    (multiReduction .maximumf [1, 2] S1 (shapeCast S1x512x128 (select (badMask S) (broadcast S512x128 (Scalar.ofBits .f32 0x3F800000#32))
      (broadcast S512x128 (Scalar.ofBits .f32 0x00000000#32))) shapeCasts_S512x128_S1x512x128) 0xFF800000#32 reduces_S1x512x128_S1
      (.inl rfl) rfl) shapeCasts_S1_S1x1x1) inpos_S1x1x1_p0_0_0) (Scalar.ofBits (F := F) .f32 0x00000000#32))) 0#32

/-! ## The fallback -/

/-- The row's maximum. -/
def fbMax (cur : FVec F S512x2048 .f32) : FVec F S512x1 .f32 :=
  shapeCast S512x1 (multiReduction .maximumf [1] S512 cur 0xFF800000#32 reduces_S512x2048_S512 (.inl rfl) rfl) shapeCasts_S512_S512x1

/-- The column numbers. -/
def fbIota : IVec S512x2048 32 := iota .tc S512x2048 32 [1] iota_S512x2048_d1_w32

/-- The first column that equals the row's maximum. -/
def fbArg (cur : FVec F S512x2048 .f32) : IVec S512x1 32 :=
  shapeCast S512x1 (multiReductionI .minsi [1] S512 (select (cmpf .oeq cur (broadcastTo S512x2048 (fbMax cur) broadcasts_S512x1_S512x2048))
    fbIota (broadcast S512x2048 2048#32)) 2147483647#32 reduces_S512x2048_S512 rfl) shapeCasts_S512_S512x1

/-- That column overwritten with −∞. -/
def fbNext (cur : FVec F S512x2048 .f32) : FVec F S512x2048 .f32 :=
  select (cmpi .eq fbIota (broadcastTo S512x2048 (fbArg cur) broadcasts_S512x1_S512x2048)) (broadcast S512x2048 negInf) cur

/-- The block after `k` steps. -/
def fb (S : FVec F S512x2048 .f32) : ℕ → FVec F S512x2048 .f32
  | 0 => S
  | k + 1 => fbNext (fb S k)

/-- The values as the fallback stores them. -/
def fbV (S : FVec F S512x2048 .f32) : FVec F S1x512x16 .f32 :=
  shapeCast S1x512x16 (concatenate S512x16 1 [⟨S512x1, fbMax (fb S 0)⟩, ⟨S512x1, fbMax (fb S 1)⟩, ⟨S512x1, fbMax (fb S 2)⟩, ⟨S512x1, fbMax (fb S 3)⟩, ⟨S512x1, fbMax (fb S 4)⟩, ⟨S512x1, fbMax (fb S 5)⟩, ⟨S512x1, fbMax (fb S 6)⟩, ⟨S512x1, fbMax (fb S 7)⟩, ⟨S512x1, fbMax (fb S 8)⟩, ⟨S512x1, fbMax (fb S 9)⟩, ⟨S512x1, fbMax (fb S 10)⟩, ⟨S512x1, fbMax (fb S 11)⟩, ⟨S512x1, fbMax (fb S 12)⟩, ⟨S512x1, fbMax (fb S 13)⟩, ⟨S512x1, fbMax (fb S 14)⟩, ⟨S512x1, fbMax (fb S 15)⟩] concatenates_S512x1_S512x1_S512x1_S512x1_S512x1_S512x1_S512x1_S512x1_S512x1_S512x1_S512x1_S512x1_S512x1_S512x1_S512x1_S512x1_S512x16_d1) shapeCasts_S512x16_S1x512x16

/-- The positions as the fallback stores them. -/
def fbI (S : FVec F S512x2048 .f32) : IVec S1x512x16 32 :=
  shapeCast S1x512x16 (concatenate S512x16 1 [⟨S512x1, fbArg (fb S 0)⟩, ⟨S512x1, fbArg (fb S 1)⟩, ⟨S512x1, fbArg (fb S 2)⟩, ⟨S512x1, fbArg (fb S 3)⟩, ⟨S512x1, fbArg (fb S 4)⟩, ⟨S512x1, fbArg (fb S 5)⟩, ⟨S512x1, fbArg (fb S 6)⟩, ⟨S512x1, fbArg (fb S 7)⟩, ⟨S512x1, fbArg (fb S 8)⟩, ⟨S512x1, fbArg (fb S 9)⟩, ⟨S512x1, fbArg (fb S 10)⟩, ⟨S512x1, fbArg (fb S 11)⟩, ⟨S512x1, fbArg (fb S 12)⟩, ⟨S512x1, fbArg (fb S 13)⟩, ⟨S512x1, fbArg (fb S 14)⟩, ⟨S512x1, fbArg (fb S 15)⟩] concatenates_S512x1_S512x1_S512x1_S512x1_S512x1_S512x1_S512x1_S512x1_S512x1_S512x1_S512x1_S512x1_S512x1_S512x1_S512x1_S512x1_S512x16_d1) shapeCasts_S512x16_S1x512x16

end Cert.KernelIdeal.Select

end
-- ==== Proof.Select.Body.lean ====
/-
  The kernel body as a short program: four loads, the two stores of the merged selection, and, where some lane may
  hide an entry, the two stores of the fallback's.
-/
module

public import proofs.«01_k».proof.Proof.Select.Model
public import Idealize.ShloMosaic.Lib.Pipeline.Regions

@[expose] public section

noncomputable section

namespace Cert.KernelIdeal.Select

open Idealize.ShloMosaic Idealize.ShloMosaic.Pipeline Idealize.SL.Sem Cert.KernelIdeal Cert.KernelIdeal.Gen

variable {F : FTy → Type} [FloatOps F]

/-- The block's scores from the four blocks the body loads. -/
abbrev score (v0 : Vec F S1x512x128 .f32) (v2 : Vec F S1x2048x128 .f32) (v4 : Vec F S1x512x2048 .f32) (v6 : Elt F .f32) :
    FVec F S512x2048 .f32 := k0_pay54 v0 v2 v4 v6

/-- A load and a store of a whole block of sixteen numbers a row. -/
def put {e : EltTy} (a : Memref sig .tc .vmem S1x512x16 e) (he : e.bits = 32) (v : Vec F S1x512x16 e) :
    Prog (TpuEff nD τ sig (Elt F) Λ₀ .tc) PUnit := do
  let _ ← Prog.lift (.load a (Rect.unit (s := S1x512x16) ![0, 0, 0] S1x512x16.size inb_S1x512x16_S1x512x16_0_0_0).toLoadRect (View.loadsAt_vmem h_S1x512x16))
  Prog.lift (.store a (Rect.unit (s := S1x512x16) ![0, 0, 0] S1x512x16.size inb_S1x512x16_S1x512x16_0_0_0) v Finset.univ (View.stores_vmem_bits_univ h_S1x512x16 he) (.inl rfl))

/-- The body, its arithmetic in closed form. -/
def body (arg2 : Memref sig .tc .smem S1 .f32) (arg3 : Memref sig .tc .vmem S1x512x128 .f32) (arg4 : Memref sig .tc .vmem S1x2048x128 .f32)
    (arg5 : Memref sig .tc .vmem S1x512x2048 .f32) (arg6 : Memref sig .tc .vmem S1x512x16 .f32) (arg7 : Memref sig .tc .vmem S1x512x16 .i32) :
    Prog (TpuEff nD τ sig (Elt F) Λ₀ .tc) PUnit := do
  let v0 : Vec F S1x512x128 .f32 ← Prog.lift (.load arg3 (Rect.unit (s := S1x512x128) ![0, 0, 0] S1x512x128.size inb_S1x512x128_S1x512x128_0_0_0).toLoadRect (View.loadsAt_vmem h_S1x512x128))
  let v2 : Vec F S1x2048x128 .f32 ← Prog.lift (.load arg4 (Rect.unit (s := S1x2048x128) ![0, 0, 0] S1x2048x128.size inb_S1x2048x128_S1x2048x128_0_0_0).toLoadRect (View.loadsAt_vmem h_S1x2048x128))
  let v4 : Vec F S1x512x2048 .f32 ← Prog.lift (.load arg5 (Rect.unit (s := S1x512x2048) ![0, 0, 0] S1x512x2048.size inb_S1x512x2048_S1x512x2048_0_0_0).toLoadRect (View.loadsAt_vmem h_S1x512x2048))
  let v6 : Elt F .f32 ← smemLoad arg2 (Rect.unit (s := S1) ![0] S1.size inb_S1_S1_0) numel1_S1 rfl
  put arg6 rfl (outV (score v0 v2 v4 v6))
  put arg7 rfl (outI (score v0 v2 v4 v6))
  if badFlag (score v0 v2 v4 v6) = 1#1 then do
    put arg6 rfl (fbV (score v0 v2 v4 v6))
    put arg7 rfl (fbI (score v0 v2 v4 v6))
    pure ⟨⟩
  else pure ⟨⟩
  pure ⟨⟩

set_option maxRecDepth 65536 in
/-- The printed body is that program, by unfolding. -/
theorem body_eq (i : grid0.Coords) (arg2 : Memref sig .tc .smem S1 .f32) (harg2 : arg2.IsWhole) (arg3 : Memref sig .tc .vmem S1x512x128 .f32)
    (harg3 : arg3.IsWhole) (arg4 : Memref sig .tc .vmem S1x2048x128 .f32) (harg4 : arg4.IsWhole) (arg5 : Memref sig .tc .vmem S1x512x2048 .f32)
    (harg5 : arg5.IsWhole) (arg6 : Memref sig .tc .vmem S1x512x16 .f32) (harg6 : arg6.IsWhole) (arg7 : Memref sig .tc .vmem S1x512x16 .i32)
    (harg7 : arg7.IsWhole) :
    cc0__fused_kernel_skel (F := F) i arg2 harg2 arg3 harg3 arg4 harg4 arg5 harg5 arg6 harg6 arg7 harg7
      = body arg2 arg3 arg4 arg5 arg6 arg7 := by
  chain_rfl

end Cert.KernelIdeal.Select

end
-- ==== Proof.Select.Run.lean ====
/-
  The body's triple: on whole staging memrefs, the inputs' at their contents and the outputs' at anything, the body
  runs to the outputs holding the selection (`resV`, `resI`).
-/
module

public import proofs.«01_k».proof.Proof.Select.Body
public import proofs.«01_k».proof.Proof.Gen.KernelIdeal.Frame
public import Idealize.ShloMosaic.Lib.VecWindow

@[expose] public section

set_option maxRecDepth 16384

noncomputable section

namespace Cert.KernelIdeal.Select

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scores of a block from its four input blocks. -/
def blockScore (x0 : Vec F S1 .f32) (x1 : Vec F S1x512x128 .f32) (x2 : Vec F S1x2048x128 .f32) (x3 : Vec F S1x512x2048 .f32) :
    FVec F S512x2048 .f32 := score x1 x2 x3 (x0 (Shape.Idx.first (by decide)))

/-- The values the body leaves: the fallback's where the flag is set, else the merged ones. -/
def resV (S : FVec F S512x2048 .f32) : Vec F S1x512x16 .f32 := if badFlag S = 1#1 then fbV S else outV S

/-- The positions the body leaves. -/
def resI (S : FVec F S512x2048 .f32) : Vec F S1x512x16 .i32 := if badFlag S = 1#1 then fbI S else outI S

set_option maxHeartbeats 1000000 in
theorem body_run (c : Dev nD) (arg2 : Memref sig .tc .smem S1 .f32) (harg2 : arg2.IsWhole) (arg3 : Memref sig .tc .vmem S1x512x128 .f32)
    (harg3 : arg3.IsWhole) (arg4 : Memref sig .tc .vmem S1x2048x128 .f32) (harg4 : arg4.IsWhole) (arg5 : Memref sig .tc .vmem S1x512x2048 .f32)
    (harg5 : arg5.IsWhole) (arg6 : Memref sig .tc .vmem S1x512x16 .f32) (harg6 : arg6.IsWhole) (arg7 : Memref sig .tc .vmem S1x512x16 .i32)
    (harg7 : arg7.IsWhole)
    (x0 : Vec F S1 .f32) (x1 : Vec F S1x512x128 .f32) (x2 : Vec F S1x2048x128 .f32) (x3 : Vec F S1x512x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (resV (blockScore x0 x1 x2 x3))
            ∗ owns (c : Thread nD τ) arg7 fullShare (resI (blockScore x0 x1 x2 x3))) -∗ K ⟨⟩))
      ⊢ wp frame (wpE (defs₀ (F := F)) Variants.none c none) E (body arg2 arg3 arg4 arg5 arg6 arg7) K := by
  unfold body put owns resV resI blockScore score
  generalize (badFlag : FVec F S512x2048 .f32 → BitVec 1) = bf
  generalize (outV : FVec F S512x2048 .f32 → FVec F S1x512x16 .f32) = oV
  generalize (outI : FVec F S512x2048 .f32 → IVec S1x512x16 32) = oI
  generalize (fbV : FVec F S512x2048 .f32 → FVec F S1x512x16 .f32) = fV
  generalize (fbI : FVec F S512x2048 .f32 → IVec S1x512x16 32) = fI
  generalize (k0_pay54 : Vec F S1x512x128 .f32 → Vec F S1x2048x128 .f32 → Vec F S1x512x2048 .f32 → Elt F .f32 → FVec F S512x2048 .f32) = sc
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  have eS : sc
      (View.readAt (Elt F) arg3.view (Rect.unit ![0, 0, 0] S1x512x128.size inb_S1x512x128_S1x512x128_0_0_0).toLoadRect (harg3.unread x1))
      (View.readAt (Elt F) arg4.view (Rect.unit ![0, 0, 0] S1x2048x128.size inb_S1x2048x128_S1x2048x128_0_0_0).toLoadRect (harg4.unread x2))
      (View.readAt (Elt F) arg5.view (Rect.unit ![0, 0, 0] S1x512x2048.size inb_S1x512x2048_S1x512x2048_0_0_0).toLoadRect (harg5.unread x3))
      (View.readAt (Elt F) arg2.view (Rect.unit ![0] S1.size inb_S1_S1_0).toLoadRect (harg2.unread x0) (Shape.Idx.first (by decide)))
      = sc x1 x2 x3 (x0 (Shape.Idx.first (by decide))) := by
    rw [View.readAt_full, View.readAt_full, View.readAt_full, View.readAt_full, hf0, hf1, hf2, hf3]
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    by_cases hb : bf (sc x1 x2 x3 (x0 (Shape.Idx.first (by decide)))) = 1#1
    · rw [if_pos hb]
      rw [← eS] at hb ⊢
      exact (congrArg (View.read (Elt F) arg6.view) (dif_pos hb)).trans (View.read_writes_full arg6.view f4 inb_S1x512x16_S1x512x16_0_0_0 (fV _) _)
    · rw [if_neg hb]
      rw [← eS] at hb ⊢
      exact (congrArg (View.read (Elt F) arg6.view) (dif_neg hb)).trans (View.read_writes_full arg6.view f4 inb_S1x512x16_S1x512x16_0_0_0 (oV _) [])
  iexists _; isplitr; swap; · iexact H5
  ipureintro
  by_cases hb : bf (sc x1 x2 x3 (x0 (Shape.Idx.first (by decide)))) = 1#1
  · rw [if_pos hb]
    rw [← eS] at hb ⊢
    exact (congrArg (View.read (Elt F) arg7.view) (dif_pos hb)).trans (View.read_writes_full arg7.view f5 inb_S1x512x16_S1x512x16_0_0_0 (fI _) _)
  · rw [if_neg hb]
    rw [← eS] at hb ⊢
    exact (congrArg (View.read (Elt F) arg7.view) (dif_neg hb)).trans (View.read_writes_full arg7.view f5 inb_S1x512x16_S1x512x16_0_0_0 (oI _) [])

end Cert.KernelIdeal.Select

end
-- ==== Proof.Select.Frame.lean ====
/-
  The pipeline's proof data for the kernel at its points: every staged input's buffer at its block, the two outputs' at
  the selection; the body's obligation; the launch; the frame.
-/
module

public import proofs.«01_k».proof.Proof.Select.Run
public import Idealize.ShloMosaic.Lib.Pipeline.FrameSuffix
public import Idealize.ShloMosaic.Lib.Claim

@[expose] public section

set_option maxRecDepth 16384

noncomputable section

namespace Cert.KernelIdeal.Select

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scores of the block at point `t`. -/
def ptScore (c : Dev nD) (t : Fin cfg0.N) : FVec F S512x2048 .f32 :=
  blockScore (iblk m c 0 t) (iblk m c 1 t) (iblk m c 2 t) (iblk m c 3 t)

/-- The proof data: the arrays as the region finds them; after the body each input's buffer at its block, the outputs at
    the selection of the point's scores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => resV (ptScore m c t)
    | ⟨5, _⟩ => resI (ptScore m c t)
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = resV (ptScore m c t) := by dsimp only [dats]
theorem after5 (c : Dev nD) (t : Fin cfg0.N) : (dats m 0 c).after 5 t = resI (ptScore m c t) := by dsimp only [dats]

/-! Each input's staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The staging memref of a window at a point. -/
abbrev stg (t : Fin cfg0.N) (w : Fin cfg0.W) := (cfg0.win w).stage (cfg0.slots t w)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg t 0) fullShare ((dats m 0 c).before 0 t d))
    ∗ (∃ d, owns (c : Thread nD τ) (stg t 1) fullShare ((dats m 0 c).before 1 t d))
    ∗ (∃ d, owns (c : Thread nD τ) (stg t 2) fullShare ((dats m 0 c).before 2 t d))
    ∗ (∃ d, owns (c : Thread nD τ) (stg t 3) fullShare ((dats m 0 c).before 3 t d))
    ∗ (∃ d, owns (c : Thread nD τ) (stg t 4) fullShare ((dats m 0 c).before 4 t d))
    ∗ (∃ d, owns (c : Thread nD τ) (stg t 5) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (stg t 0) fullShare ((dats m 0 c).after 0 t)
    ∗ owns (c : Thread nD τ) (stg t 1) fullShare ((dats m 0 c).after 1 t)
    ∗ owns (c : Thread nD τ) (stg t 2) fullShare ((dats m 0 c).after 2 t)
    ∗ owns (c : Thread nD τ) (stg t 3) fullShare ((dats m 0 c).after 3 t)
    ∗ owns (c : Thread nD τ) (stg t 4) fullShare ((dats m 0 c).after 4 t)
    ∗ owns (c : Thread nD τ) (stg t 5) fullShare ((dats m 0 c).after 5 t))

/-- The body at any point: the run at the inputs' blocks; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [cc0__fused_kernel_eq_skeleton, body_eq]
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  unfold ptScore
  iintro ⟨HΦ, Ho, ⟨%d0, H0⟩, ⟨%d1, H1⟩, ⟨%d2, H2⟩, ⟨%d3, H3⟩, ⟨%d4, H4⟩, ⟨%d5, H5⟩⟩
  iapply (body_run c _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3))
    _ (hstage0_4 ((cfg0.slots t 4).cast nbuf0_4)) _ (hstage0_5 ((cfg0.slots t 5).cast nbuf0_5))
    (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every run ends with each array at the proof data's final contents and each other buffer as the host
    lines after the region leave it, and with every semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch's final state, without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: every run ends with the four arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.KernelIdeal.Select

end
-- ==== Proof.Select.Pick.lean ====
/-
  Selecting the best entries of a row `f : Fin n → EReal`, one after the other: the greatest value first, the lower
  position first among equal values. What the selection is (`IsPicks`), that it is unique, and that taking the first
  position of the maximum and overwriting it with −∞ makes it, as long as every entry is above −∞.
-/
module

public import Idealize.ShloMosaic.PureOps.Ideal.Laws

@[expose] public section

noncomputable section

namespace Cert.Pick

open Finset

variable {n : ℕ} (f : Fin n → EReal)

/-- Position `i` comes before position `j`: a greater value, or an equal one at a lower position. -/
def Before (i j : Fin n) : Prop := f j < f i ∨ (f i = f j ∧ i < j)

variable {f}

theorem Before.le {i j : Fin n} (h : Before f i j) : f j ≤ f i := h.elim le_of_lt fun h => h.1.ge

theorem Before.asymm {i j : Fin n} (h : Before f i j) : ¬ Before f j i := by
  rcases h with h | ⟨h, h'⟩ <;> rintro (g | ⟨g, g'⟩)
  · exact lt_asymm h g
  · exact h.ne g
  · exact g.ne h
  · exact lt_asymm h' g'

theorem Before.trans {i j k : Fin n} (h : Before f i j) (g : Before f j k) : Before f i k := by
  rcases h with h | ⟨h, h'⟩ <;> rcases g with g | ⟨g, g'⟩
  · exact .inl (g.trans h)
  · exact .inl (g ▸ h)
  · exact .inl (h ▸ g)
  · exact .inr ⟨h.trans g, h'.trans g'⟩

theorem before_total {i j : Fin n} (h : i ≠ j) : Before f i j ∨ Before f j i := by
  rcases lt_trichotomy (f i) (f j) with g | g | g
  · exact .inr (.inl g)
  · rcases lt_or_gt_of_ne h with k | k
    · exact .inl (.inr ⟨g, k⟩)
    · exact .inr (.inr ⟨g.symm, k⟩)
  · exact .inl (.inl g)

variable (f)

/-- Position `i` is the first of the set `T` in that order. -/
def Best (T : Finset (Fin n)) (i : Fin n) : Prop := i ∈ T ∧ ∀ j ∈ T, j ≠ i → Before f i j

/-- What `p` names before step `d`. -/
def taken (p : ℕ → Fin n) (d : ℕ) : Finset (Fin n) := (range d).image p

/-- `p` names, in order, the `k` first positions of the row. -/
def IsPicks (p : ℕ → Fin n) (k : ℕ) : Prop := ∀ d < k, Best f (univ \ taken p d) (p d)

variable {f}

theorem Best.unique {T : Finset (Fin n)} {i j : Fin n} (hi : Best f T i) (hj : Best f T j) : i = j := by
  by_contra h
  exact (hi.2 j hj.1 (Ne.symm h)).asymm (hj.2 i hi.1 h)

theorem taken_succ (p : ℕ → Fin n) (d : ℕ) : taken p (d + 1) = insert (p d) (taken p d) := by
  simp [taken, range_add_one]

theorem mem_taken {p : ℕ → Fin n} {d : ℕ} {j : Fin n} : j ∈ taken p d ↔ ∃ e < d, p e = j := by
  simp [taken]

/-- The selection is unique. -/
theorem IsPicks.unique {p q : ℕ → Fin n} {k : ℕ} (hp : IsPicks f p k) (hq : IsPicks f q k) : ∀ d < k, p d = q d := by
  intro d
  induction d using Nat.strong_induction_on with
  | _ d ih =>
    intro hd
    have : taken p d = taken q d := by
      refine Finset.image_congr fun e he => ?_
      have he : e < d := by simpa using he
      exact ih e he (he.trans hd)
    exact (hp d hd).unique (this ▸ hq d hd)

/-- A later pick is after an earlier one. -/
theorem IsPicks.before {p : ℕ → Fin n} {k : ℕ} (hp : IsPicks f p k) {d e : ℕ} (hde : d < e) (he : e < k) : Before f (p d) (p e) := by
  have h := (hp e he).1
  rw [mem_sdiff, mem_taken] at h
  refine (hp d (hde.trans he)).2 _ ?_ fun h' => h.2 ⟨d, hde, h'.symm⟩
  rw [mem_sdiff, mem_taken]
  exact ⟨mem_univ _, fun ⟨a, ha, h'⟩ => h.2 ⟨a, ha.trans hde, h'⟩⟩

/-- What is not among the picks is after each of them. -/
theorem IsPicks.before_left {p : ℕ → Fin n} {k : ℕ} (hp : IsPicks f p k) {d : ℕ} (hd : d < k) {j : Fin n} (hj : j ∉ taken p k) :
    Before f (p d) j := by
  rw [mem_taken] at hj
  refine (hp d hd).2 _ ?_ fun h' => hj ⟨d, hd, h'.symm⟩
  rw [mem_sdiff, mem_taken]
  exact ⟨mem_univ _, fun ⟨a, ha, h'⟩ => hj ⟨a, ha.trans hd, h'⟩⟩

variable (f)

/-- The row with the positions of `P` overwritten with −∞. -/
def mask (P : Finset (Fin n)) (j : Fin n) : EReal := if j ∈ P then ⊥ else f j

variable {f}

/-- The first position of a masked row's maximum is the best position left. -/
theorem best_of_mask (hf : ∀ j, ⊥ < f j) {P : Finset (Fin n)} (hP : ∃ j, j ∉ P) {i : Fin n} (hmax : ∀ j, mask f P j ≤ mask f P i)
    (hmin : ∀ j, mask f P j = mask f P i → i ≤ j) : Best f (univ \ P) i ∧ mask f P i = f i := by
  obtain ⟨j₀, h₀⟩ := hP
  have hi : i ∉ P := fun h => by
    have := hmax j₀
    rw [mask, mask, if_neg h₀, if_pos h] at this
    exact absurd (hf j₀) (not_lt.mpr this)
  have e : mask f P i = f i := if_neg hi
  refine ⟨⟨by simp [hi], fun j hj hne => ?_⟩, e⟩
  have hj : j ∉ P := by simpa using hj
  have ej : mask f P j = f j := if_neg hj
  rcases (hmax j).lt_or_eq with h | h
  · exact .inl (by rwa [ej, e] at h)
  · exact .inr ⟨by rw [← e, ← ej, h], lt_of_le_of_ne (hmin j h) hne.symm⟩

/-- The rounds "first position of the maximum, then −∞ there" make the selection: each round's maximum is its pick's
    value, and the row after `d` rounds is the row masked at the first `d` picks. -/
theorem picks_of_rounds (hf : ∀ j, ⊥ < f j) {k : ℕ} (hk : k ≤ n) (g : ℕ → Fin n → EReal) (a : ℕ → Fin n) (h0 : g 0 = f)
    (hmax : ∀ d < k, ∀ j, g d j ≤ g d (a d)) (hmin : ∀ d < k, ∀ j, g d j = g d (a d) → a d ≤ j)
    (hs : ∀ d < k, ∀ j, g (d + 1) j = if j = a d then ⊥ else g d j) :
    IsPicks f a k ∧ (∀ d < k, g d (a d) = f (a d)) ∧ ∀ d ≤ k, g d = mask f (taken a d) := by
  have hg : ∀ d ≤ k, g d = mask f (taken a d) := by
    intro d
    induction d with
    | zero => intro _; rw [h0]; funext j; simp [mask, taken]
    | succ d ih =>
      intro hd
      funext j
      rw [hs d (by omega), ih (by omega), taken_succ]
      by_cases h : j = a d <;> simp [mask, h]
  have hne : ∀ d < k, ∃ j, j ∉ taken a d := fun d hd => by
    by_contra h
    push Not at h
    have h1 : (taken a d).card ≤ d := card_image_le.trans (by simp)
    rw [eq_univ_of_forall h, card_univ, Fintype.card_fin] at h1
    omega
  have hb : ∀ d < k, Best f (univ \ taken a d) (a d) ∧ mask f (taken a d) (a d) = f (a d) := fun d hd =>
    best_of_mask hf (hne d hd) (fun j => by rw [← hg d hd.le]; exact hmax d hd j)
      (fun j h => hmin d hd j (by rw [hg d hd.le]; exact h))
  exact ⟨fun d hd => (hb d hd).1, fun d hd => by rw [hg d hd.le]; exact (hb d hd).2, hg⟩

/-- A best position of a nonempty set exists. -/
theorem exists_best {T : Finset (Fin n)} (h : T.Nonempty) : ∃ i, Best f T i := by
  induction h using Finset.Nonempty.cons_induction with
  | singleton a => exact ⟨a, by simp, fun j hj hne => absurd (by simpa using hj) hne⟩
  | cons a s ha hs ih =>
    obtain ⟨i, hi, hb⟩ := ih
    rcases before_total (f := f) (i := a) (j := i) (fun e => ha (e ▸ hi)) with h | h
    · refine ⟨a, by simp, fun j hj hne => ?_⟩
      have hj : j ∈ s := (by simpa using hj : j = a ∨ j ∈ s).resolve_left hne
      by_cases e : j = i
      · exact e ▸ h
      · exact h.trans (hb j hj e)
    · refine ⟨i, by simp [hi], fun j hj hne => ?_⟩
      rcases (by simpa using hj : j = a ∨ j ∈ s) with e | hj
      · exact e ▸ h
      · exact hb j hj hne

end Cert.Pick

end
-- ==== Proof.Select.Rows.lean ====
/-
  The kernel's selection on one row of 2048 extended reals, written without vectors.

  `iter` is the plain selection by repeated maximum (the kernel's fallback on the row, and each lane's rounds on its 16
  entries). `St` holds the four best of each of the 128 lanes; `next` takes the best head. `merge_picks`: as long as no
  lane that has run out of heads hides an entry at or above the last value taken, the sixteen heads taken are the
  row's sixteen best.
-/
module

public import proofs.«01_k».proof.Proof.Select.Pick

@[expose] public section

noncomputable section

namespace Cert.Pick

open Finset

/-! ## Repeated maximum -/

section Iter
variable {n : ℕ}

/-- The greatest entry. -/
def top (g : Fin n → EReal) : EReal := univ.sup g

theorem le_top (g : Fin n → EReal) (j : Fin n) : g j ≤ top g := le_sup (mem_univ j)

theorem exists_top [NeZero n] (g : Fin n → EReal) : ∃ j, g j = top g := by
  obtain ⟨j, -, h⟩ := exists_mem_eq_sup (univ : Finset (Fin n)) ⟨0, mem_univ _⟩ g
  exact ⟨j, h.symm⟩

variable [NeZero n]

/-- The first position of the greatest entry. -/
def arg (g : Fin n → EReal) : Fin n :=
  (univ.filter fun j => g j = top g).min' ((exists_top g).imp fun j h => by simp [h])

theorem arg_spec (g : Fin n → EReal) : g (arg g) = top g := by
  have := min'_mem (univ.filter fun j => g j = top g) ((exists_top g).imp fun j h => by simp [h])
  exact (mem_filter.mp this).2

theorem arg_le (g : Fin n → EReal) (j : Fin n) (h : g j = top g) : arg g ≤ j :=
  min'_le _ _ (by simp [h])

theorem arg_unique {g : Fin n → EReal} {i : Fin n} (h : g i = top g) (hle : ∀ j, g j = top g → i ≤ j) : i = arg g :=
  le_antisymm (hle _ (arg_spec g)) (arg_le g i h)

/-- The first position of the greatest entry overwritten with −∞. -/
def drop (g : Fin n → EReal) (j : Fin n) : EReal := if j = arg g then ⊥ else g j

/-- The row after `d` such steps. -/
def iter (f : Fin n → EReal) : ℕ → Fin n → EReal
  | 0 => f
  | d + 1 => drop (iter f d)

/-- Repeated maximum makes the selection. -/
theorem iter_picks {f : Fin n → EReal} (hf : ∀ j, ⊥ < f j) {k : ℕ} (hk : k ≤ n) :
    IsPicks f (fun d => arg (iter f d)) k ∧ (∀ d < k, top (iter f d) = f (arg (iter f d))) ∧
      ∀ d ≤ k, iter f d = mask f (taken (fun d => arg (iter f d)) d) := by
  have h := picks_of_rounds hf hk (iter f) (fun d => arg (iter f d)) rfl
    (fun d _ j => (le_top _ j).trans (arg_spec _).ge) (fun d _ j h => arg_le _ j (h.trans (arg_spec _))) (fun d _ j => rfl)
  exact ⟨h.1, fun d hd => (arg_spec _).symm.trans (h.2.1 d hd), h.2.2⟩

end Iter

/-! ## The merge -/

/-- Entry `c` of lane `l` of a row cut in 16 chunks of 128. -/
def at' (c : Fin 16) (l : Fin 128) : Fin 2048 := ⟨128 * c.val + l.val, by omega⟩

theorem at'_inj {c c' : Fin 16} {l l' : Fin 128} (h : at' c l = at' c' l') : c = c' ∧ l = l' := by
  have := congrArg Fin.val h
  simp only [at'] at this
  exact ⟨Fin.ext (by omega), Fin.ext (by omega)⟩

theorem exists_at' (j : Fin 2048) : ∃ c l, at' c l = j :=
  ⟨⟨j.val / 128, by omega⟩, ⟨j.val % 128, by omega⟩, Fin.ext (by simp only [at']; omega)⟩

/-- Lane `l`'s 16 entries. -/
def lane (f : Fin 2048 → EReal) (l : Fin 128) (c : Fin 16) : EReal := f (at' c l)

theorem before_lane {f : Fin 2048 → EReal} {l : Fin 128} {c c' : Fin 16} (h : Before (lane f l) c c') : Before f (at' c l) (at' c' l) := by
  rcases h with h | ⟨h, h'⟩
  · exact .inl h
  · refine .inr ⟨h, ?_⟩
    have : c.val < c'.val := h'
    show 128 * c.val + l.val < 128 * c'.val + l.val
    omega

/-- The heads: for each of four depths and each lane a value and a position. -/
structure St where
  v : Fin 4 → Fin 128 → EReal
  p : Fin 4 → Fin 128 → Fin 2048

namespace St

/-- The positions at which the greatest head is found. -/
def cands (s : St) : Finset (Fin 2048) := (univ.filter fun l => s.v 0 l = top (s.v 0)).image (s.p 0)

theorem cands_nonempty (s : St) : s.cands.Nonempty := by
  obtain ⟨l, h⟩ := exists_top (s.v 0)
  exact ⟨s.p 0 l, by simp only [cands, mem_image, mem_filter]; exact ⟨l, ⟨mem_univ _, h⟩, rfl⟩⟩

/-- The least of them. -/
def pos (s : St) : Fin 2048 := s.cands.min' s.cands_nonempty

theorem pos_spec (s : St) : ∃ l, s.v 0 l = top (s.v 0) ∧ s.p 0 l = s.pos := by
  have := min'_mem s.cands s.cands_nonempty
  simp only [cands, mem_image, mem_filter, mem_univ, true_and] at this
  exact this

theorem pos_le (s : St) (l : Fin 128) (h : s.v 0 l = top (s.v 0)) : s.pos ≤ s.p 0 l :=
  min'_le _ _ (by simp only [cands, mem_image, mem_filter]; exact ⟨l, ⟨mem_univ _, h⟩, rfl⟩)

/-- The lane whose head stands at the taken position moved up by one. -/
def next (s : St) : St where
  v := fun d l => if s.p 0 l = s.pos then (![s.v 1 l, s.v 2 l, s.v 3 l, ⊥] : Fin 4 → EReal) d else s.v d l
  p := fun d l => if s.p 0 l = s.pos then (![s.p 1 l, s.p 2 l, s.p 3 l, s.p 3 l] : Fin 4 → Fin 2048) d else s.p d l

end St

variable (f : Fin 2048 → EReal)

/-- The position in the row of lane `l`'s `d`-th best. -/
def cand (l : Fin 128) (d : ℕ) : Fin 2048 := at' (arg (iter (lane f l) d)) l

/-- The heads at the start: each lane's four best. -/
def start : St where
  v d l := top (iter (lane f l) d.val)
  p d l := cand f l d.val

/-- The heads after `k` steps. -/
def st : ℕ → St
  | 0 => start f
  | k + 1 => (st k).next

/-- How many heads lane `l` has given after `k` steps. -/
def given (l : Fin 128) : ℕ → ℕ
  | 0 => 0
  | k + 1 => if (st f k).p 0 l = (st f k).pos then given l k + 1 else given l k

variable {f}
variable (hf : ∀ j, ⊥ < f j)

include hf

theorem lane_picks (l : Fin 128) : IsPicks (lane f l) (fun d => arg (iter (lane f l) d)) 4 := (iter_picks (fun c => hf _) (by omega)).1

theorem lane_top (l : Fin 128) {d : ℕ} (hd : d < 4) : top (iter (lane f l) d) = f (cand f l d) := (iter_picks (fun c => hf _) (k := 4) (by omega)).2.1 d hd

theorem cand_before (l : Fin 128) {d e : ℕ} (hde : d < e) (he : e < 4) : Before f (cand f l d) (cand f l e) :=
  before_lane ((lane_picks hf l).before hde he)

omit hf in
theorem before_irrefl {n : ℕ} {f : Fin n → EReal} {i : Fin n} : ¬ Before f i i := fun h => h.asymm h

theorem cand_inj {l l' : Fin 128} {d e : ℕ} (hd : d < 4) (he : e < 4) (h : cand f l d = cand f l' e) : l = l' ∧ d = e := by
  obtain ⟨-, rfl⟩ := at'_inj h
  refine ⟨rfl, ?_⟩
  rcases lt_trichotomy d e with g | g | g
  · exact absurd (h ▸ cand_before hf l g he) before_irrefl
  · exact g
  · exact absurd (h ▸ cand_before hf l g hd) before_irrefl

/-- What the heads hold after `k ≤ 16` steps: lane `l` has given its first `given l k` best and shows the rest, −∞
    behind the last. -/
theorem st_eq {k : ℕ} (hk : k ≤ 16) : (∑ l, given f l k = k) ∧ (∀ l, given f l k ≤ 4) ∧
    (∀ d l, (st f k).v d l = if given f l k + d.val < 4 then f (cand f l (given f l k + d.val)) else ⊥) ∧
    (∀ d l, (st f k).p d l = cand f l (min (given f l k + d.val) 3)) := by
  induction k with
  | zero =>
    refine ⟨by simp [given], by simp [given], fun d l => ?_, fun d l => ?_⟩
    · have := d.isLt
      simp only [given, Nat.zero_add, this, if_true]
      exact lane_top hf l this
    · have := d.isLt
      simp only [given, Nat.zero_add]
      rw [min_eq_left (by omega)]
      rfl
  | succ k ih =>
    obtain ⟨h1, h2, h3, h4⟩ := ih (by omega)
    -- the lane that gives
    obtain ⟨l₀, hl, hp⟩ := (st f k).pos_spec
    have hex : ∃ l, given f l k < 4 := by
      by_contra h
      push Not at h
      have : ∑ _l : Fin 128, 4 ≤ ∑ l, given f l k := sum_le_sum fun l _ => h l
      simp at this
      omega
    have hlt : given f l₀ k < 4 := by
      by_contra h
      obtain ⟨l, hl'⟩ := hex
      have e1 := h3 0 l₀
      have e2 := h3 0 l
      have := le_top ((st f k).v 0) l
      simp only [Fin.val_zero, Nat.add_zero] at e1 e2
      rw [if_neg h] at e1
      rw [if_pos hl'] at e2
      rw [← hl, e1, e2] at this
      exact absurd (hf _) (not_lt.mpr this)
    have hsel : ∀ l, (st f k).p 0 l = (st f k).pos ↔ l = l₀ := by
      intro l
      constructor
      · intro h
        rw [← hp, h4, h4] at h
        exact (cand_inj hf (by omega) (by omega) h).1
      · rintro rfl
        exact hp
    have hg : ∀ l, given f l (k + 1) = if l = l₀ then given f l k + 1 else given f l k := fun l => by
      simp only [given, hsel]
    refine ⟨?_, fun l => ?_, fun d l => ?_, fun d l => ?_⟩
    · have : ∀ l, given f l (k + 1) = given f l k + if l = l₀ then 1 else 0 := fun l => by rw [hg]; split <;> rfl
      simp only [this, sum_add_distrib, h1]
      simp
    · rw [hg]
      split
      · rename_i h; subst h; omega
      · exact h2 l
    · show (if (st f k).p 0 l = (st f k).pos then _ else _) = _
      simp only [hsel, hg]
      by_cases h : l = l₀
      · simp only [h, if_true]
        fin_cases d <;> simp [h3] <;> congr 1 <;> (try omega) <;> (try simp) <;> (try omega)
      · simp only [h, if_false]
        exact h3 d l
    · show (if (st f k).p 0 l = (st f k).pos then _ else _) = _
      simp only [hsel, hg]
      by_cases h : l = l₀
      · simp only [h, if_true]
        fin_cases d <;> simp [h4] <;> congr 1 <;> omega
      · simp only [h, if_false]
        exact h4 d l

/-- The head taken in step `k`: its lane, which still has one, its position and its value; and it is the best of the heads. -/
theorem st_step {k : ℕ} (hk : k < 16) : ∃ l₀, given f l₀ k < 4 ∧ (st f k).pos = cand f l₀ (given f l₀ k) ∧
    top ((st f k).v 0) = f (st f k).pos ∧
    (∀ l, given f l k < 4 → l ≠ l₀ → Before f (st f k).pos (cand f l (given f l k))) ∧
    (∀ l, given f l (k + 1) = if l = l₀ then given f l k + 1 else given f l k) := by
  obtain ⟨h1, h2, h3, h4⟩ := st_eq hf hk.le
  obtain ⟨l₀, hl, hp⟩ := (st f k).pos_spec
  have hv : ∀ l, given f l k < 4 → (st f k).v 0 l = f (cand f l (given f l k)) := fun l h => by
    rw [h3, Fin.val_zero, Nat.add_zero, if_pos h]
  have hpp : ∀ l, given f l k < 4 → (st f k).p 0 l = cand f l (given f l k) := fun l h => by
    rw [h4, Fin.val_zero, Nat.add_zero, min_eq_left (by omega)]
  have hex : ∃ l, given f l k < 4 := by
    by_contra h
    push Not at h
    have : ∑ _l : Fin 128, 4 ≤ ∑ l, given f l k := sum_le_sum fun l _ => h l
    simp at this
    omega
  have hlt : given f l₀ k < 4 := by
    by_contra h
    obtain ⟨l, hl'⟩ := hex
    have e1 := h3 0 l₀
    have := le_top ((st f k).v 0) l
    simp only [Fin.val_zero, Nat.add_zero] at e1
    rw [if_neg h] at e1
    rw [← hl, e1, hv l hl'] at this
    exact absurd (hf _) (not_lt.mpr this)
  have hpos : (st f k).pos = cand f l₀ (given f l₀ k) := hp.symm.trans (hpp l₀ hlt)
  have htop : top ((st f k).v 0) = f (st f k).pos := by rw [← hl, hv l₀ hlt, hpos]
  refine ⟨l₀, hlt, hpos, htop, fun l h hne => ?_, fun l => ?_⟩
  · have hle := le_top ((st f k).v 0) l
    rw [htop, hv l h] at hle
    rcases hle.lt_or_eq with g | g
    · exact .inl g
    · refine .inr ⟨g.symm, lt_of_le_of_ne ?_ fun e => hne ?_⟩
      · rw [← hpp l h]
        exact (st f k).pos_le l (by rw [hv l h, g, htop])
      · rw [hpos] at e
        exact (cand_inj hf hlt h e).1.symm
  · have : (st f k).p 0 l = (st f k).pos ↔ l = l₀ := by
      constructor
      · intro h
        rw [← hp, h4, h4] at h
        exact (cand_inj hf (by omega) (by omega) h).1
      · rintro rfl
        exact hp
    simp only [given, this]

theorem given_mono (l : Fin 128) {k e : ℕ} (h : k ≤ e) : given f l k ≤ given f l e := by
  induction h with
  | refl => exact le_rfl
  | step h ih => refine ih.trans ?_; simp only [given]; split <;> omega

/-- The values taken do not rise. -/
theorem top_anti {k e : ℕ} (h : k ≤ e) (he : e < 16) : top ((st f e).v 0) ≤ top ((st f k).v 0) := by
  induction h with
  | refl => exact le_rfl
  | @step e h ih =>
    refine le_trans ?_ (ih (by omega))
    obtain ⟨-, -, h3, -⟩ := st_eq hf (k := e + 1) (by omega)
    obtain ⟨-, -, h3', -⟩ := st_eq hf (k := e) (by omega)
    refine Finset.sup_le fun l _ => ?_
    refine le_trans ?_ (le_top _ l)
    rw [h3, h3']
    simp only [Fin.val_zero, Nat.add_zero]
    split
    · rename_i h4
      rw [if_pos (by have := given_mono (f := f) hf l (show e ≤ e + 1 by omega); omega)]
      rcases (given_mono (f := f) hf l (show e ≤ e + 1 by omega)).eq_or_lt with g | g
      · rw [← g]
      · exact (cand_before hf l g h4).le
    · exact bot_le

/-- What has been taken after `k` steps: the first `given l k` of each lane. -/
theorem mem_taken_st {k : ℕ} (hk : k ≤ 16) (j : Fin 2048) :
    j ∈ taken (fun k => (st f k).pos) k ↔ ∃ l d, d < given f l k ∧ cand f l d = j := by
  induction k with
  | zero => simp [taken, given]
  | succ k ih =>
    obtain ⟨l₀, hlt, hpos, -, -, hg⟩ := st_step hf (k := k) (by omega)
    rw [taken_succ, mem_insert, ih (by omega)]
    constructor
    · rintro (rfl | ⟨l, d, hd, rfl⟩)
      · exact ⟨l₀, given f l₀ k, by rw [hg]; simp, hpos.symm⟩
      · exact ⟨l, d, hd.trans_le (given_mono hf l (Nat.le_succ k)), rfl⟩
    · rintro ⟨l, d, hd, rfl⟩
      rw [hg] at hd
      by_cases h : l = l₀
      · subst h
        rw [if_pos rfl] at hd
        rcases Nat.lt_succ_iff_lt_or_eq.mp hd with g | g
        · exact .inr ⟨l, d, g, rfl⟩
        · exact .inl (by subst g; exact hpos.symm)
      · rw [if_neg h] at hd
        exact .inr ⟨l, d, hd, rfl⟩

/-- **The merge makes the selection**, as long as no lane without heads left hides an entry that is at least the
    sixteenth value taken. -/
theorem merge_picks (hbad : ∀ l, (st f 16).v 0 l = ⊥ → ¬ top ((st f 15).v 0) ≤ top (iter (lane f l) 4)) :
    IsPicks f (fun k => (st f k).pos) 16 := by
  intro k hk
  obtain ⟨l₀, hlt, hpos, htop, hbest, hg⟩ := st_step hf hk
  refine ⟨?_, fun j hj hne => ?_⟩
  · rw [mem_sdiff, mem_taken_st hf hk.le]
    refine ⟨mem_univ _, fun ⟨l, d, hd, h⟩ => ?_⟩
    have := (st_eq hf hk.le).2.1 l
    obtain ⟨rfl, rfl⟩ := cand_inj hf (by omega) hlt (h.trans hpos)
    omega
  · rw [mem_sdiff, mem_taken_st hf hk.le] at hj
    obtain ⟨c, l, rfl⟩ := exists_at' j
    have hj := hj.2
    -- it is enough that lane `l` has a head left that is the entry or before it
    have key : given f l k < 4 → (at' c l = cand f l (given f l k) ∨ Before f (cand f l (given f l k)) (at' c l)) →
        Before f (st f k).pos (at' c l) := by
      intro h hb
      by_cases e : l = l₀
      · subst e
        rw [← hpos] at hb
        exact hb.resolve_left hne
      · rcases hb with hb | hb
        · rw [hb]; exact hbest l h e
        · exact (hbest l h e).trans hb
    by_cases hc : c ∈ taken (fun d => arg (iter (lane f l) d)) 4
    · obtain ⟨d, hd, rfl⟩ := mem_taken.mp hc
      have hge : given f l k ≤ d := by
        by_contra h
        exact hj ⟨l, d, by omega, rfl⟩
      refine key (by omega) ?_
      rcases hge.eq_or_lt with g | g
      · exact .inl (by rw [g]; rfl)
      · exact .inr (cand_before hf l g hd)
    · by_cases h4 : given f l k < 4
      · exact key h4 (.inr (before_lane ((lane_picks hf l).before_left h4 hc)))
      · have h16 : ¬ given f l 16 < 4 := by have := given_mono (f := f) hf l (show k ≤ 16 by omega); omega
        have hb := hbad l (by rw [(st_eq hf le_rfl).2.2.1]; simp [h16])
        refine .inl ?_
        rw [← htop]
        refine lt_of_lt_of_le (lt_of_le_of_lt ?_ (not_le.mp hb)) (top_anti hf (show k ≤ 15 by omega) (by omega))
        refine le_trans (Eq.le ?_) (le_top _ c)
        rw [(iter_picks (fun c => hf _) (k := 4) (f := lane f l) (by omega)).2.2 4 le_rfl, mask, if_neg hc]
        rfl

/-- The merge's values are those of its positions. -/
theorem merge_top {k : ℕ} (hk : k < 16) : top ((st f k).v 0) = f (st f k).pos := (st_step hf hk).choose_spec.2.2.1

end Cert.Pick

end
-- ==== Proof.Select.Lanes.lean ====
/-
  The kernel's rounds and merge, read at one row of a block: lane by lane they are the row selection's.
-/
module

public import proofs.«01_k».proof.Proof.Select.Model
public import proofs.«01_k».proof.Proof.Select.Rows
public import Idealize.ShloMosaic.Lib.ValueIdx
public import Idealize.ShloMosaic.Lib.ValueLayout
public import Idealize.ShloMosaic.Lib.ValueLayoutCasts
public import Idealize.ShloMosaic.Lib.WordCmp

@[expose] public section

noncomputable section

namespace Cert.KernelIdeal.Select

open Idealize.ShloMosaic Idealize.ShloMosaic.ValueIdx Idealize.SL.Sem Cert.KernelIdeal Cert.Pick
open Facts₀ Facts

variable [Facts]

/-! ## Numbers -/

/-- A natural number as a float. -/
def num (n : ℕ) : EReal := ((n : ℝ) : EReal)

theorem num_inj {a b : ℕ} : num a = num b ↔ a = b := by
  rw [num, num, EReal.coe_eq_coe_iff, Nat.cast_inj]

theorem num_le {a b : ℕ} : num a ≤ num b ↔ a ≤ b := by
  rw [num, num, EReal.coe_le_coe_iff, Nat.cast_le]

theorem ofBits_negInf : Ideal.ofBits .f32 0xFF800000#32 = ⊥ := by simp [Ideal.ofBits, Ideal.ieee]

theorem ofBits_posInf : Ideal.ofBits .f32 0x7F800000#32 = ⊤ := by simp [Ideal.ofBits, Ideal.ieee]

theorem ofBits_chunkWord (c : Fin 16) : Ideal.ofBits .f32 (chunkWord c) = num c.val := by
  fin_cases c <;> simp [chunkWord, num, Ideal.ofBits, Ideal.ieee] <;> rw [← EReal.coe_mul] <;> norm_num

theorem ofBits_128 : Ideal.ofBits .f32 0x43000000#32 = num 128 := by
  simp [num, Ideal.ofBits, Ideal.ieee]
  rw [← EReal.coe_mul]
  norm_num

theorem toInt_ofNat {n : ℕ} (h : n < 2147483648) : (BitVec.ofNat 32 n).toInt = n := by
  have e : (BitVec.ofNat 32 n).toNat = n := by rw [BitVec.toNat_ofNat, Nat.mod_eq_of_lt (by omega)]
  rw [BitVec.toInt_eq_toNat_of_lt (by omega), e]

theorem sitofp_num {n : ℕ} (h : n < 2147483648) : ((((BitVec.ofNat 32 n).toInt : ℤ) : ℝ) : EReal) = num n := by
  rw [toInt_ofNat h, num]; simp

theorem fptosi_num {n : ℕ} (h : n < 2147483648) : Ideal.fptosi 32 (num n) = BitVec.ofNat 32 n := by
  rw [num, Ideal.fptosi, Ideal.toIntClamped_coe, if_pos (Nat.cast_nonneg n)]
  have : ⌊((n : ℕ) : ℝ)⌋ = (n : ℤ) := Int.floor_natCast n
  rw [this, min_eq_right (by push_cast; omega), max_eq_right (by push_cast; omega)]
  exact BitVec.ofInt_natCast 32 n

/-- A select on "equal". -/
theorem select_oeq {α : Type} (x y : EReal) (a b : α) : Scalar.select (Ideal.cmp .oeq x y) a b = if x = y then a else b := by
  show Scalar.select (BitVec.ofBool (decide (x = y))) a b = _
  rw [WordCmp.select_ofBool]; simp

/-- A maximum folded from −∞ is the greatest entry. -/
theorem fold_max {n : ℕ} (g : Fin n → EReal) : (Finset.univ : Finset (Fin n)).fold max (⊥ : EReal) g = top g := rfl

/-- A chain of "if `P c` then `w c`" over descending numbers ends at the least that satisfies `P`. -/
theorem foldl_first {n : ℕ} {β : Type} (P : Fin n → Prop) [DecidablePred P] (w : Fin n → β) (L : List (Fin n)) (z : β)
    (hL : L.Pairwise (· > ·)) (c : Fin n) (hc : c ∈ L) (hP : P c) (hmin : ∀ j, P j → c ≤ j) :
    L.foldl (fun a c => if P c then w c else a) z = w c := by
  induction L generalizing z with
  | nil => simp at hc
  | cons x L ih =>
    rw [List.pairwise_cons] at hL
    rw [List.foldl_cons]
    rcases List.mem_cons.mp hc with rfl | h
    · rw [if_pos hP]
      have : ∀ (M : List (Fin n)) (y : β), (∀ j ∈ M, ¬ P j) → M.foldl (fun a c => if P c then w c else a) y = y := by
        intro M
        induction M with
        | nil => intro y _; rfl
        | cons m M ih => intro y h; rw [List.foldl_cons, if_neg (h m (by simp))]; exact ih y fun j hj => h j (by simp [hj])
      exact this L _ fun j hj hPj => absurd (hmin j hPj) (not_le.mpr (hL.1 j hj))
    · exact ih _ hL.2 h

/-! ## The rounds -/

/-- Row `r` of a block. -/
def row (S : FVec Ideal S512x2048 .f32) (r : Fin 512) (j : Fin 2048) : EReal := S (ix2 r j)

/-- A chunk holds the row's entries at its lanes. -/
theorem chunks_apply (S : FVec Ideal S512x2048 .f32) (c : Fin 16) (r : Fin 512) (l : Fin 128) :
    chunks S c (ix2 r l) = lane (row S r) l c := by
  have h : S512x2048.Slices ![0, 128 * c.val] S512x128 := ⟨rfl, fun a => by
    match a with
    | ⟨0, _⟩ => exact le_rfl
    | ⟨1, _⟩ => show 128 * c.val + 128 ≤ 2048; omega⟩
  have e : chunks S c = extractStridedSlice S512x128 ![0, 128 * c.val] S h := by fin_cases c <;> rfl
  rw [e]
  exact slice2_axis1_apply _ S h r l _ rfl

/-- The round's maximum. -/
theorem chunkMax_apply (ch : Fin 16 → FVec Ideal S512x128 .f32) (i : S512x128.Idx) : chunkMax ch i = top fun c => ch c i := by
  show max (max (max (max (max (max (max (max (max (max (max (max (max (max (max (ch 0 i) (ch 1 i)) (ch 2 i)) (ch 3 i)) (ch 4 i)) (ch 5 i))
    (ch 6 i)) (ch 7 i)) (ch 8 i)) (ch 9 i)) (ch 10 i)) (ch 11 i)) (ch 12 i)) (ch 13 i)) (ch 14 i)) (ch 15 i) = _
  have h : ∀ c, ch c i ≤ top fun c => ch c i := le_top fun c => ch c i
  refine le_antisymm (by simp only [max_le_iff, h, and_self]) (Finset.sup_le fun c _ => ?_)
  fin_cases c <;> simp [le_max_iff]

theorem mem_all (c : Fin 16) : c ∈ ([15, 14, 13, 12, 11, 10, 9, 8, 7, 6, 5, 4, 3, 2, 1, 0] : List (Fin 16)) := by decide +revert

/-- The round's chunk. -/
theorem chunkArg_apply (ch : Fin 16 → FVec Ideal S512x128 .f32) (i : S512x128.Idx) :
    chunkArg ch i = num (arg fun c => ch c i).val := by
  have e : chunkArg ch i = [15, 14, 13, 12, 11, 10, 9, 8, 7, 6, 5, 4, 3, 2, 1, 0].foldl
      (fun a c => Scalar.select (Ideal.cmp .oeq (ch c i) (chunkMax ch i)) (Ideal.ofBits .f32 (chunkWord c)) a)
      (Ideal.ofBits .f32 0x41800000#32) := rfl
  rw [e]
  simp only [select_oeq, chunkMax_apply, ofBits_chunkWord]
  exact foldl_first (fun c => ch c i = top fun c => ch c i) (fun c : Fin 16 => num c.val) _ _ (by decide) _ (mem_all _)
    (arg_spec fun c => ch c i) (arg_le fun c => ch c i)

/-- What the round leaves. -/
theorem chunkNext_apply (ch : Fin 16 → FVec Ideal S512x128 .f32) (i : S512x128.Idx) (c : Fin 16) :
    chunkNext ch c i = drop (fun c => ch c i) c := by
  show Scalar.select (Ideal.cmp .oeq (chunkArg ch i) (Ideal.ofBits .f32 (chunkWord c))) (Ideal.ofBits .f32 0xFF800000#32) (ch c i) = _
  rw [select_oeq, chunkArg_apply, ofBits_chunkWord, ofBits_negInf, drop]
  exact if_congr (num_inj.trans ⟨fun h => Fin.ext h.symm, fun h => (congrArg Fin.val h).symm⟩) rfl rfl

/-- The chunks after `d` rounds, lane by lane. -/
theorem rounds_apply (S : FVec Ideal S512x2048 .f32) (d : ℕ) (c : Fin 16) (r : Fin 512) (l : Fin 128) :
    rounds S d c (ix2 r l) = iter (lane (row S r) l) d c := by
  induction d generalizing c with
  | zero => exact chunks_apply S c r l
  | succ d ih =>
    show chunkNext (rounds S d) c (ix2 r l) = drop (iter (lane (row S r) l) d) c
    rw [chunkNext_apply]
    exact congrArg (drop · c) (funext ih)

theorem roundMax_apply (S : FVec Ideal S512x2048 .f32) (d : ℕ) (r : Fin 512) (l : Fin 128) :
    chunkMax (rounds S d) (ix2 r l) = top (iter (lane (row S r) l) d) := by
  rw [chunkMax_apply]
  exact congrArg top (funext fun c => rounds_apply S d c r l)

theorem roundPos_apply (S : FVec Ideal S512x2048 .f32) (d : ℕ) (r : Fin 512) (l : Fin 128) :
    chunkPos (rounds S d) (ix2 r l) = num (cand (row S r) l d).val := by
  show chunkArg (rounds S d) (ix2 r l) * Ideal.ofBits .f32 0x43000000#32
    + ((((iota .tc S512x128 32 [1] iota_S512x128_d1_w32 (ix2 r l)).toInt : ℤ) : ℝ) : EReal) = _
  have e : iota .tc S512x128 32 [1] iota_S512x128_d1_w32 (ix2 r l) = BitVec.ofNat 32 l.val := iota_single_apply _ _ _ _ _ _
  rw [e, sitofp_num (by omega), chunkArg_apply, ofBits_128]
  have e2 : (fun c => rounds S d c (ix2 r l)) = iter (lane (row S r) l) d := funext fun c => rounds_apply S d c r l
  rw [e2]
  simp only [num, cand, at']
  rw [← EReal.coe_mul, ← EReal.coe_add]
  push_cast
  rw [mul_comm]

/-! ## The merge -/

/-- The vector heads `h` are the row heads `s` at row `r`. -/
def At (h : Heads Ideal) (s : St) (r : Fin 512) : Prop :=
  (∀ d l, h.val d (ix2 l r) = s.v d l) ∧ ∀ d l, h.pos d (ix2 l r) = num (s.p d l).val

theorem heads_at (S : FVec Ideal S512x2048 .f32) (r : Fin 512) : At (heads S) (start (row S r)) r :=
  ⟨fun d l => (transpose_ix2_apply _ _ l r).trans (roundMax_apply S d.val r l),
   fun d l => (transpose_ix2_apply _ _ l r).trans (roundPos_apply S d.val r l)⟩

theorem lift_col (r : Fin 512) (l : Fin 128) : reduces_S128x512_S512.lift (ix1 r) l = ix2 l r := by
  funext a; match a with | ⟨0, _⟩ => rfl | ⟨1, _⟩ => rfl

variable {h : Heads Ideal} {s : St} {r : Fin 512} (hs : At h s r)
include hs

theorem mergeMax_apply (u : Fin 1) : mergeMax h (ix2 u r) = top (s.v 0) := by
  rw [mergeMax, shapeCast_a_1a_apply]
  refine (Ideal.multiReduction_maximumf_single _ _ _ _ _ _).trans ?_
  rw [show (FloatOps.ofBits FTy.f32 0xFF800000#32 : Ideal .f32) = ⊥ from ofBits_negInf]
  refine (fold_max _).trans (congrArg top (funext fun l => ?_))
  exact (congrArg (h.val 0) (lift_col r l)).trans (hs.1 0 l)

theorem mergePos_apply (u : Fin 1) : mergePos h (ix2 u r) = num s.pos.val := by
  rw [mergePos, shapeCast_a_1a_apply]
  refine (multiReduction_minimumf_eq_fold _ _ _ _ _ _).trans ?_
  refine (reduces_S128x512_S512.fold_filter_drop_single _ _ _ _).trans ?_
  rw [show (FloatOps.ofBits FTy.f32 0x7F800000#32 : Ideal .f32) = ⊤ from ofBits_posInf]
  have e : ∀ l : Fin 128, (select (cmpf .oeq (h.val 0) (broadcastTo S128x512 (mergeMax h) broadcasts_S1x512_S128x512)) (h.pos 0)
      (broadcast S128x512 (Scalar.sitofp .f32 2048#32))) (reduces_S128x512_S512.lift (ix1 r) l)
      = if s.v 0 l = top (s.v 0) then num (s.p 0 l).val else num 2048 := fun l => by
    rw [lift_col]
    show Scalar.select (Ideal.cmp .oeq (h.val 0 (ix2 l r)) (broadcastTo S128x512 (mergeMax h) broadcasts_S1x512_S128x512 (ix2 l r)))
      (h.pos 0 (ix2 l r)) ((((BitVec.ofNat 32 2048).toInt : ℤ) : ℝ) : EReal) = _
    rw [select_oeq, broadcastTo_1b_ab_apply, mergeMax_apply hs, sitofp_num (by omega), hs.1, hs.2]
  refine (Finset.fold_congr fun l _ => e l).trans ?_
  show (Finset.univ : Finset (Fin 128)).inf _ = _
  refine le_antisymm ?_ (Finset.le_inf fun l _ => ?_)
  · obtain ⟨l, hl, hp⟩ := s.pos_spec
    refine (Finset.inf_le (Finset.mem_univ l)).trans ?_
    rw [if_pos hl, hp]
  · split
    · rename_i g
      exact num_le.mpr (s.pos_le l g)
    · exact num_le.mpr (by omega)

theorem mergeSel_apply {α : Type} (l : Fin 128) (a b : α) :
    Scalar.select (mergeSel h (ix2 l r)) a b = if s.p 0 l = s.pos then a else b := by
  show Scalar.select (Ideal.cmp .oeq (h.pos 0 (ix2 l r)) (broadcastTo S128x512 (mergePos h) broadcasts_S1x512_S128x512 (ix2 l r))) a b = _
  rw [select_oeq, broadcastTo_1b_ab_apply, mergePos_apply hs, hs.2]
  exact if_congr (num_inj.trans Fin.ext_iff.symm) rfl rfl

theorem mergeNext_at : At (mergeNext h) s.next r := by
  constructor
  · intro d l
    fin_cases d <;> refine (mergeSel_apply hs l _ _).trans ?_ <;> simp only [hs.1]
    · rfl
    · rfl
    · rfl
    show (if _ then Ideal.ofBits .f32 0xFF800000#32 else _) = _
    rw [ofBits_negInf]
    rfl
  · intro d l
    fin_cases d
    · refine (mergeSel_apply hs l _ _).trans ?_
      simp only [hs.2, St.next]; split <;> rfl
    · refine (mergeSel_apply hs l _ _).trans ?_
      simp only [hs.2, St.next]; split <;> rfl
    · refine (mergeSel_apply hs l _ _).trans ?_
      simp only [hs.2, St.next]; split <;> rfl
    · refine (hs.2 3 l).trans ?_
      simp only [St.next]; split <;> rfl

omit hs

/-- The heads after `k` steps, row by row. -/
theorem merge_at (S : FVec Ideal S512x2048 .f32) (r : Fin 512) (k : ℕ) : At (merge S k) (st (row S r) k) r := by
  induction k with
  | zero => exact heads_at S r
  | succ k ih => exact mergeNext_at ih

/-- The sixteen values, row by row. -/
theorem mergedV_apply (S : FVec Ideal S512x2048 .f32) (k : Fin 16) (r : Fin 512) :
    mergedV S (ix2 k r) = top ((st (row S r) k.val).v 0) :=
  (concatenate_ofFn_unit_apply (t := S16x512) (s₁ := S1x512) 0 (fun k : Fin 16 => mergeMax (merge S k.val)) _ rfl rfl (ix2 k r) k rfl
    (ix2 0 r) (fun b => match b with | ⟨0, _⟩ => fun h => absurd rfl h | ⟨1, _⟩ => fun _ => rfl)).trans (mergeMax_apply (merge_at S r k.val) 0)

/-- The sixteen positions, row by row. -/
theorem mergedI_apply (S : FVec Ideal S512x2048 .f32) (k : Fin 16) (r : Fin 512) :
    mergedI S (ix2 k r) = num (st (row S r) k.val).pos.val :=
  (concatenate_ofFn_unit_apply (t := S16x512) (s₁ := S1x512) 0 (fun k : Fin 16 => mergePos (merge S k.val)) _ rfl rfl (ix2 k r) k rfl
    (ix2 0 r) (fun b => match b with | ⟨0, _⟩ => fun h => absurd rfl h | ⟨1, _⟩ => fun _ => rfl)).trans (mergePos_apply (merge_at S r k.val) 0)

theorem outV_apply (S : FVec Ideal S512x2048 .f32) (u : Fin 1) (r : Fin 512) (k : Fin 16) :
    outV S (ix3 u r k) = top ((st (row S r) k.val).v 0) := by
  rw [outV, shapeCast_ab_1ab_apply, transpose_ix2_apply, mergedV_apply]

theorem outI_apply (S : FVec Ideal S512x2048 .f32) (u : Fin 1) (r : Fin 512) (k : Fin 16) :
    outI S (ix3 u r k) = BitVec.ofNat 32 (st (row S r) k.val).pos.val := by
  rw [outI, shapeCast_ab_1ab_apply]
  show Ideal.fptosi 32 (transpose S512x16 [1, 0] (mergedI S) transposes_S16x512_p1_0_S512x16 (ix2 r k)) = _
  rw [transpose_ix2_apply, mergedI_apply, fptosi_num (by omega)]

end Cert.KernelIdeal.Select

end
-- ==== Proof.Select.Fallback.lean ====
/-
  The fallback read at one row of a block, the branch's condition, and what the body therefore stores: the row's sixteen
  best, on either branch.
-/
module

public import proofs.«01_k».proof.Proof.Select.Lanes
public import proofs.«01_k».proof.Proof.Select.Run

@[expose] public section

noncomputable section

namespace Cert.KernelIdeal.Select

open Idealize.ShloMosaic Idealize.ShloMosaic.ValueIdx Idealize.SL.Sem Cert.KernelIdeal Cert.Pick
open Facts₀ Facts

variable [Facts]

theorem lift_row (r : Fin 512) (j : Fin 2048) : reduces_S512x2048_S512.lift (ix1 r) j = ix2 r j := by
  funext a; match a with | ⟨0, _⟩ => rfl | ⟨1, _⟩ => rfl

/-- A column broadcast along the rows reads the column at the row. -/
theorem column_apply {α : Type} {n : ℕ} (x : S512x1.Idx → α) (h : S512x1.Broadcasts ⟨2, ![512, n]⟩) (r : Fin 512) (j : Fin n) :
    broadcastTo ⟨2, ![512, n]⟩ x h (ix2 r j) = x (ix2 r 0) :=
  broadcastTo_apply x h (ix2 r j) (ix2 r 0) fun a => match a with | ⟨0, _⟩ => rfl | ⟨1, _⟩ => rfl

/-- The signed minimum of words, as numbers. -/
theorem minsi_toInt (x y : BitVec 32) : (IKind.op .minsi x y).toInt = min x.toInt y.toInt := by
  show (IntOp.minsi x y).toInt = _
  rw [IntOp.minsi, BitVec.slt_eq_decide]
  by_cases h : x.toInt < y.toInt
  · rw [if_pos (by simpa using h), min_eq_left h.le]
  · rw [if_neg (by simpa using h), min_eq_right (not_lt.mp h)]

theorem cmpi_at {t : Shape} (p : CmpIPredicate) (a b : IVec t 32) (i : t.Idx) : cmpi p a b i = IntOp.cmpi p (a i) (b i) := rfl

theorem andi_at {t : Shape} (a b : IVec t 1) (i : t.Idx) : andi a b i = a i &&& b i := rfl

theorem cmpf_at {t : Shape} (p : CmpFPredicate) (a b : FVec Ideal t .f32) (i : t.Idx) : cmpf p a b i = Ideal.cmp p (a i) (b i) := rfl

theorem scalar_ogt (x : Ideal .f32) (h : (0 : EReal) < x) : Scalar.cmpf .ogt x (Scalar.ofBits (F := Ideal) .f32 0x00000000#32) = 1#1 := by
  show BitVec.ofBool (decide (Ideal.ofBits .f32 0x00000000#32 < x)) = 1#1
  rw [Ideal.ofBits_zero_f32, decide_eq_true h]
  rfl

variable (S : FVec Ideal S512x2048 .f32) (r : Fin 512)

theorem fbMax_apply (u : Fin 1) : fbMax S (ix2 r u) = top (row S r) := by
  rw [fbMax, shapeCast_a_a1_apply]
  refine (Ideal.multiReduction_maximumf_single _ _ _ _ _ _).trans ?_
  rw [show (FloatOps.ofBits FTy.f32 0xFF800000#32 : Ideal .f32) = ⊥ from ofBits_negInf]
  exact (fold_max _).trans (congrArg top (funext fun j => congrArg S (lift_row r j)))

theorem fbArg_apply (u : Fin 1) : fbArg S (ix2 r u) = BitVec.ofNat 32 (arg (row S r)).val := by
  rw [fbArg, shapeCast_a_a1_apply]
  refine (multiReductionI_eq_fold _ _ _ _ _ _).trans ?_
  refine (reduces_S512x2048_S512.fold_filter_drop_single _ _ _ _).trans ?_
  have e : ∀ j : Fin 2048, (select (cmpf .oeq S (broadcastTo S512x2048 (fbMax S) broadcasts_S512x1_S512x2048))
    fbIota (broadcast S512x2048 2048#32)) (reduces_S512x2048_S512.lift (ix1 r) j)
      = if row S r j = top (row S r) then BitVec.ofNat 32 j.val else BitVec.ofNat 32 2048 := fun j => by
    rw [lift_row]
    show Scalar.select (Ideal.cmp .oeq (S (ix2 r j)) (broadcastTo S512x2048 (fbMax S) broadcasts_S512x1_S512x2048 (ix2 r j)))
      (iota .tc S512x2048 32 [1] iota_S512x2048_d1_w32 (ix2 r j)) (BitVec.ofNat 32 2048) = _
    rw [select_oeq, column_apply, fbMax_apply, iota_single_apply]
    rfl
  refine (Finset.fold_congr fun j _ => e j).trans ?_
  refine BitVec.eq_of_toInt_eq ?_
  refine (Finset.fold_hom (op := IKind.op .minsi) (op' := min) (m := BitVec.toInt) minsi_toInt).symm.trans ?_
  rw [toInt_ofNat (show (arg (row S r)).val < 2147483648 by omega)]
  refine le_antisymm ((Finset.fold_min_le _).mpr (.inr ⟨arg (row S r), Finset.mem_univ _, ?_⟩))
    ((Finset.le_fold_min _).mpr ⟨?_, fun j _ => ?_⟩)
  · rw [if_pos (arg_spec _), toInt_ofNat (by omega)]
  · have : (2147483647#32 : BitVec 32).toInt = 2147483647 := by decide
    rw [this]
    omega
  · split
    · rename_i g
      rw [toInt_ofNat (by omega)]
      exact_mod_cast arg_le _ j g
    · rw [toInt_ofNat (by omega)]
      omega

theorem fbNext_row : row (fbNext S) r = drop (row S r) := by
  funext j
  rw [row, fbNext, select_apply, cmpi_at, fbIota, column_apply, fbArg_apply, iota_single_apply, broadcast_apply]
  rw [show (negInf : Ideal .f32) = ⊥ from ofBits_negInf]
  show Scalar.select (BitVec.ofBool (BitVec.ofNat 32 j.val == BitVec.ofNat 32 (arg (row S r)).val)) _ _ = _
  rw [WordCmp.select_ofBool, drop]
  refine if_congr ?_ rfl rfl
  rw [beq_iff_eq]
  refine ⟨fun h => Fin.ext ?_, fun h => by rw [h]⟩
  have := congrArg BitVec.toInt h
  rw [toInt_ofNat (by omega), toInt_ofNat (by omega)] at this
  exact_mod_cast this

theorem fb_row (k : ℕ) : row (fb S k) r = iter (row S r) k := by
  induction k with
  | zero => rfl
  | succ k ih => exact (fbNext_row (fb S k) r).trans (congrArg drop ih)

theorem fbV_apply (u : Fin 1) (k : Fin 16) : fbV S (ix3 u r k) = top (iter (row S r) k.val) := by
  rw [fbV, shapeCast_ab_1ab_apply]
  refine (concatenate_ofFn_unit_apply (t := S512x16) (s₁ := S512x1) 1 (fun k : Fin 16 => fbMax (fb S k.val)) _ rfl rfl (ix2 r k) k rfl
    (ix2 r 0) (fun b => match b with | ⟨0, _⟩ => fun _ => rfl | ⟨1, _⟩ => fun h => absurd rfl h)).trans ?_
  rw [fbMax_apply, fb_row]

theorem fbI_apply (u : Fin 1) (k : Fin 16) : fbI S (ix3 u r k) = BitVec.ofNat 32 (arg (iter (row S r) k.val)).val := by
  rw [fbI, shapeCast_ab_1ab_apply]
  refine (concatenate_ofFn_unit_apply (t := S512x16) (s₁ := S512x1) 1 (fun k : Fin 16 => fbArg (fb S k.val)) _ rfl rfl (ix2 r k) k rfl
    (ix2 r 0) (fun b => match b with | ⟨0, _⟩ => fun _ => rfl | ⟨1, _⟩ => fun h => absurd rfl h)).trans ?_
  rw [fbArg_apply, fb_row]

/-! ## The branch -/

/-- The mask marks a lane that has run out of heads and hides an entry at or above the sixteenth value. -/
theorem badMask_apply (l : Fin 128) (h0 : (st (row S r) 16).v 0 l = ⊥) (h1 : top ((st (row S r) 15).v 0) ≤ top (iter (lane (row S r) l) 4)) :
    badMask S (ix2 r l) = 1#1 := by
  have e (x : FVec Ideal S512x1 .f32) := column_apply (n := 128) x broadcasts_S512x1_S512x128 r l
  rw [badMask, andi_at, cmpf_at, cmpf_at, e, shapeCast_a_a1_apply, shapeCast_1a_a_apply,
    slice2_axis0_apply 15 (mergedV S) slices_S16x512_o15_0_S1x512 0 r 15 rfl,
    mergedV_apply, roundMax_apply, transpose_ix2_apply, (merge_at S r 16).1, broadcast_apply, h0]
  rw [show (negInf : Ideal .f32) = ⊥ from ofBits_negInf]
  show BitVec.ofBool (decide ((⊥ : EReal) = ⊥)) &&& BitVec.ofBool (decide (top ((st (row S r) 15).v 0) ≤ top (iter (lane (row S r) l) 4))) = _
  rw [decide_eq_true h1, decide_eq_true rfl]
  rfl

/-- The one entry of a vector of positive entries, read through a cast to three axes, is positive. -/
theorem extract_pos (v : FVec Ideal S1 .f32) (H : ∀ j, (0 : EReal) < v j) :
    (0 : EReal) < extractAt ![0, 0, 0] (shapeCast S1x1x1 v shapeCasts_S1_S1x1x1) inpos_S1x1x1_p0_0_0 := H _

/-- A block with a positive entry has a positive maximum. -/
theorem fold_pos (X : FVec Ideal S1x512x128 .f32) (l : Fin 128) (h : (0 : EReal) < X (ix3 0 r l)) (j : S1.Idx) :
    (0 : EReal) < multiReduction .maximumf [1, 2] S1 X 0xFF800000#32 reduces_S1x512x128_S1 (.inl rfl) rfl j := by
  have e := multiReduction_maximumf_eq_fold X 0xFF800000#32 reduces_S1x512x128_S1 (.inl rfl) rfl j
  refine lt_of_lt_of_le h (le_trans (b := (Finset.univ.filter fun i => reduces_S1x512x128_S1.drop i = j).fold max (Ideal.ofBits .f32 0xFF800000#32) X) ?_
    (le_of_eq e.symm))
  refine (Finset.le_fold_max _).mpr (.inr ⟨ix3 0 r l, ?_, le_rfl⟩)
  rw [Finset.mem_filter]
  refine ⟨Finset.mem_univ _, funext fun a => Fin.ext ?_⟩
  match a with | ⟨0, _⟩ => exact (Nat.lt_one_iff.mp (Fin.isLt _)).trans (Nat.lt_one_iff.mp (Fin.isLt _)).symm

/-- If a lane is marked, the body takes the fallback. -/
theorem badFlag_eq_one (l : Fin 128) (h : badMask S (ix2 r l) = 1#1) : badFlag S = 1#1 := by
  have hlt : (0 : EReal) < extractAt ![0, 0, 0] (shapeCast S1x1x1
    (multiReduction .maximumf [1, 2] S1 (shapeCast S1x512x128 (select (badMask S) (broadcast S512x128 (Scalar.ofBits .f32 0x3F800000#32))
      (broadcast S512x128 (Scalar.ofBits (F := Ideal) .f32 0x00000000#32))) shapeCasts_S512x128_S1x512x128) 0xFF800000#32 reduces_S1x512x128_S1
      (.inl rfl) rfl) shapeCasts_S1_S1x1x1) inpos_S1x1x1_p0_0_0 := by
    refine extract_pos _ (fold_pos r _ l ?_)
    have e : shapeCast S1x512x128 (select (badMask S) (broadcast S512x128 (Scalar.ofBits .f32 0x3F800000#32))
      (broadcast S512x128 (Scalar.ofBits (F := Ideal) .f32 0x00000000#32))) shapeCasts_S512x128_S1x512x128 (ix3 0 r l)
        = Scalar.select (badMask S (ix2 r l)) (Ideal.ofBits .f32 (chunkWord 1)) (Ideal.ofBits .f32 0x00000000#32) :=
      shapeCast_ab_1ab_apply _ _ 0 r l
    refine lt_of_lt_of_le ?_ e.ge
    rw [h, ofBits_chunkWord]
    show (0 : EReal) < num 1
    simp [num]
  rw [badFlag, scalar_ogt _ hlt]
  rfl

/-! ## What the body stores -/

variable (hS : ∀ j, ⊥ < row S r j)
include hS

/-- **The row's sixteen best**, on either branch: positions … -/
theorem resI_apply (u : Fin 1) (k : Fin 16) : resI S (ix3 u r k) = BitVec.ofNat 32 (arg (iter (row S r) k.val)).val := by
  by_cases hb : badFlag S = 1#1
  · rw [resI, if_pos hb, fbI_apply]
  · rw [resI, if_neg hb, outI_apply]
    have hp := merge_picks hS fun l h0 h1 => hb (badFlag_eq_one S r l (badMask_apply S r l h0 h1))
    rw [hp.unique (iter_picks hS (by omega)).1 k.val k.isLt]

/-- … and values. -/
theorem resV_apply (u : Fin 1) (k : Fin 16) : resV S (ix3 u r k) = row S r (arg (iter (row S r) k.val)) := by
  by_cases hb : badFlag S = 1#1
  · rw [resV, if_pos hb, fbV_apply, (iter_picks hS (k := 16) (by omega)).2.1 k.val k.isLt]
  · rw [resV, if_neg hb, outV_apply, merge_top hS k.isLt]
    have hp := merge_picks hS fun l h0 h1 => hb (badFlag_eq_one S r l (badMask_apply S r l h0 h1))
    rw [hp.unique (iter_picks hS (by omega)).1 k.val k.isLt]

end Cert.KernelIdeal.Select

end
-- ==== Proof.Select.TopK.lean ====
/-
  The reference's selection: a stable sort by the value alone, cut after `k` entries, names the same positions as taking
  the best entry `k` times.
-/
module

public import proofs.«01_k».proof.Proof.Select.Rows
public import Idealize.ShloMosaic.Lib.SortPrefix
public import Idealize.ShloMosaic.Lib.ValueIdx
public import Idealize.ShloMosaic.Lib.Pipeline.Value

@[expose] public section

noncomputable section

namespace Cert.Pick

open Idealize.ShloMosaic Idealize.ShloMosaic.ValueIdx Finset

/-- Two relations that agree on every pair taken in the list's order sort the list alike: an insertion only asks whether a
later element of the list goes before an earlier one. -/
theorem stableSort_congr_pairwise {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

open Classical in
/-- A stable sort by a greater value sorts by `Before`: the position decides among equal values. -/
theorem sortedFrom_gt {n : ℕ} (f : Fin n → EReal) :
    sortedFrom (fun i j => decide (f j < f i)) = sortedFrom fun i j => decide (Before f i j) := by
  have e : sortPositions n (fun i j => decide (f j < f i)) = sortPositions n fun i j => decide (Before f i j) := by
    refine stableSort_congr_pairwise _ _ _ ((List.pairwise_lt_finRange n).imp fun {a b} hab => decide_eq_decide.mpr ?_)
    exact ⟨.inl, fun h => h.elim id fun h => absurd h.2 (lt_asymm hab)⟩
  funext k
  unfold sortedFrom
  rw [List.get_of_eq e]
  rfl

open Classical in
theorem strictTotal_before {n : ℕ} (f : Fin n → EReal) : StrictTotalBefore fun i j : Fin n => decide (Before f i j) where
  irrefl a := decide_eq_false before_irrefl
  trans a b c h g := decide_eq_true ((of_decide_eq_true h).trans (of_decide_eq_true g))
  total a b h := (before_total h).imp decide_eq_true decide_eq_true

/-- **Position `i` of the sorted row** is the `i`-th pick. -/
theorem sortedFrom_picks {n k : ℕ} {f : Fin n → EReal} (hk : k ≤ n) {p : ℕ → Fin n} (hp : IsPicks f p k) (i : Fin k) :
    sortedFrom (fun i j => decide (f j < f i)) (i.castLE hk) = p i.val := by
  classical
  rw [sortedFrom_gt]
  refine (strictTotal_before f).sortedFrom_eq_of_prefix hk (fun i => p i.val) ?_ ?_ ?_ i
  · intro a b h
    have h : p a.val = p b.val := h
    by_contra hne
    rcases lt_or_gt_of_ne hne with g | g
    · exact before_irrefl (f := f) (i := p b.val) (by simpa only [h] using hp.before g b.isLt)
    · exact before_irrefl (f := f) (i := p b.val) (by simpa only [h] using hp.before g a.isLt)
  · exact fun a b hab => decide_eq_false (hp.before hab b.isLt).asymm
  · intro a q hq
    refine decide_eq_false (hp.before_left a.isLt ?_).asymm
    rw [mem_taken]
    rintro ⟨e, he, rfl⟩
    exact hq ⟨e, he⟩ rfl

/-! ## The host's top-k of a rank-three array along its last axis -/

variable {a b n k : ℕ} (x : (⟨3, ![a, b, n]⟩ : Shape).Idx → EReal) (h : (⟨3, ![a, b, n]⟩ : Shape).Slices (fun _ => 0) ⟨3, ![a, b, k]⟩)

/-- The last axis. -/
abbrev last : Fin (⟨3, ![a, b, n]⟩ : Shape).rank := ⟨2, Nat.lt_succ_self 2⟩

/-- An entry's row runs through the entries that differ from it on the last axis. -/
theorem along_last (i : Fin a) (r : Fin b) (c c' : Fin n) :
    Shape.Idx.along (s := ⟨3, ![a, b, n]⟩) (ix3 i r c) (last (a := a) (b := b) (n := n)) c' = ix3 i r c' := by
  funext d
  match d with
  | ⟨0, _⟩ => rfl
  | ⟨1, _⟩ => rfl
  | ⟨2, _⟩ => rfl

/-- The comparator on the row's entries is "greater". -/
theorem topK_from (i : Fin a) (r : Fin b) (c d : Fin n) :
    sortedFrom (fun m m' : Fin n => FloatOps.cmpfTotal (F := Ideal) (φ := .f32) .gt
        (x (Shape.Idx.along (s := ⟨3, ![a, b, n]⟩) (ix3 i r d) (last (a := a) (b := b) (n := n)) m))
        (x (Shape.Idx.along (s := ⟨3, ![a, b, n]⟩) (ix3 i r d) (last (a := a) (b := b) (n := n)) m')) == 1#1) c
      = sortedFrom (fun m m' => decide (x (ix3 i r m') < x (ix3 i r m))) c := by
  congr 1
  funext m m'
  rw [along_last, along_last]
  show (BitVec.ofBool (decide (x (ix3 i r m') < x (ix3 i r m))) == 1#1) = _
  cases decide (x (ix3 i r m') < x (ix3 i r m)) <;> rfl

/-- Cutting the last axis at `k` keeps the entries before `k`. -/
theorem slice_last {α : Type} (y : (⟨3, ![a, b, n]⟩ : Shape).Idx → α) (i : Fin a) (r : Fin b) (hk : k ≤ n) (c : Fin k) :
    extractStridedSlice ⟨3, ![a, b, k]⟩ (fun _ => 0) y h (ix3 i r c) = y (ix3 i r (c.castLE hk)) := by
  refine extractStridedSlice_apply _ _ h (ix3 i r c) (ix3 i r (c.castLE hk)) fun d => ?_
  match d with
  | ⟨0, _⟩ => exact (Nat.zero_add _).symm
  | ⟨1, _⟩ => exact (Nat.zero_add _).symm
  | ⟨2, _⟩ => exact (Nat.zero_add _).symm

/-- The positions on the last axis, as words. -/
abbrev positions : IVec ⟨3, ![a, b, n]⟩ 32 :=
  fun i => if hd : 2 < (⟨3, ![a, b, n]⟩ : Shape).rank then iotaInDim ⟨3, ![a, b, n]⟩ 32 ⟨2, hd⟩ i else 0#32

/-- The values and their positions in the stable sort's order. -/
abbrev sorted : ((⟨3, ![a, b, n]⟩ : Shape).Idx → Ideal .f32) × ((⟨3, ![a, b, n]⟩ : Shape).Idx → BitVec 32) :=
  Host.sort2 ⟨3, ![a, b, n]⟩ 2 (fun l r => FloatOps.cmpfTotal (F := Ideal) (φ := .f32) .gt l.1 r.1) x positions

theorem topK_fst : (Host.topK ⟨3, ![a, b, k]⟩ 2 (FloatOps.cmpfTotal (F := Ideal) (φ := .f32) .gt) x h).1
    = extractStridedSlice ⟨3, ![a, b, k]⟩ (fun _ => 0) (sorted x).1 h := rfl
theorem topK_snd : (Host.topK ⟨3, ![a, b, k]⟩ 2 (FloatOps.cmpfTotal (F := Ideal) (φ := .f32) .gt) x h).2
    = extractStridedSlice ⟨3, ![a, b, k]⟩ (fun _ => 0) (sorted x).2 h := rfl

variable {p : ℕ → Fin n} (i : Fin a) (r : Fin b) (hk : k ≤ n) (hp : IsPicks (fun j => x (ix3 i r j)) p k) (c : Fin k)
include hp hk

/-- The values: the row's entry at each pick … -/
theorem topK_value : (Host.topK ⟨3, ![a, b, k]⟩ 2 (FloatOps.cmpfTotal (F := Ideal) (φ := .f32) .gt) x h).1 (ix3 i r c)
    = x (ix3 i r (p c.val)) := by
  rw [topK_fst]
  refine (slice_last h (sorted x).1 i r hk c).trans ?_
  unfold sorted Host.sort2
  rw [dif_pos (Nat.lt_succ_self 2)]
  refine Eq.trans (b := x (ix3 i r (sortedFrom (fun m m' => decide (x (ix3 i r m') < x (ix3 i r m))) (c.castLE hk)))) ?_
    (congrArg (fun q => x (ix3 i r q)) (sortedFrom_picks hk hp c))
  refine (congrArg x (along_last i r (c.castLE hk) _)).trans ?_
  exact congrArg (fun q => x (ix3 i r q)) (topK_from x i r _ _)

/-- … and the positions, as 32-bit words. -/
theorem topK_position : (Host.topK ⟨3, ![a, b, k]⟩ 2 (FloatOps.cmpfTotal (F := Ideal) (φ := .f32) .gt) x h).2 (ix3 i r c)
    = BitVec.ofNat 32 (p c.val).val := by
  rw [topK_snd]
  refine (slice_last h (sorted x).2 i r hk c).trans ?_
  unfold sorted Host.sort2
  rw [dif_pos (Nat.lt_succ_self 2)]
  refine Eq.trans (b := BitVec.ofNat 32 (sortedFrom (fun m m' => decide (x (ix3 i r m') < x (ix3 i r m))) (c.castLE hk)).val) ?_
    (congrArg (fun q : Fin n => BitVec.ofNat 32 q.val) (sortedFrom_picks hk hp c))
  exact congrArg (fun q : Fin n => BitVec.ofNat 32 q.val) (topK_from x i r _ _)

end Cert.Pick
-- ==== Proof.Score.Formula.lean ====
/-
  One score as a formula of extended reals, in the kernel's form and in the reference's, and that the two agree and are
  above −∞ when the points are finite, the scale is finite and `q` is below 1.
-/
module

public import Idealize.ShloMosaic.PureOps.Ideal.Laws

@[expose] public section

noncomputable section

namespace Cert.Score

open Idealize.ShloMosaic Finset

/-- A finite extended real. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.zero : IsReal 0 := ⟨0, EReal.coe_zero.symm⟩

theorem IsReal.sum {ι : Type} (s : Finset ι) {f : ι → EReal} (h : ∀ i, IsReal (f i)) : IsReal (∑ i ∈ s, f i) := by
  classical
  induction s using Finset.induction_on with
  | empty => rw [sum_empty]; exact .zero
  | insert a s ha ih => rw [sum_insert ha]; exact (h a).add ih

theorem IsReal.ne_bot {x : EReal} (h : IsReal x) : x ≠ ⊥ := by obtain ⟨a, rfl⟩ := h; exact EReal.coe_ne_bot a
theorem IsReal.ne_top {x : EReal} (h : IsReal x) : x ≠ ⊤ := by obtain ⟨a, rfl⟩ := h; exact EReal.coe_ne_top a

theorem isReal_of_ne {x : EReal} (hb : x ≠ ⊥) (ht : x ≠ ⊤) : IsReal x := ⟨x.toReal, (EReal.coe_toReal ht hb).symm⟩

/-! ## The literals -/

/-- The literal 2. -/
def two : EReal := Ideal.ofBits .f32 0x40000000#32

theorem isReal_two : IsReal two := ⟨2, by
  simp [two, Ideal.ofBits, Ideal.ieee]
  rw [← EReal.coe_mul]
  norm_num⟩

/-- The temperature's bounds, 5 and −5. -/
def hi : EReal := Ideal.ofBits .f32 0x40A00000#32
def lo : EReal := Ideal.ofBits .f32 0xC0A00000#32

theorem isReal_hi : IsReal hi := ⟨5, by
  simp [hi, Ideal.ofBits, Ideal.ieee]
  rw [← EReal.coe_mul]
  norm_num⟩

theorem isReal_lo : IsReal lo := ⟨-5, by
  simp [lo, Ideal.ofBits, Ideal.ieee]
  rw [← EReal.coe_mul]
  norm_num⟩

/-- The scale: the exponential of the clipped temperature. -/
def scale (t : EReal) : EReal := Ideal.exp (min hi (max lo t))

theorem isReal_scale (t : EReal) : IsReal (scale t) := by
  have h : IsReal (min hi (max lo t)) := by
    refine isReal_of_ne (ne_of_gt (lt_min ?_ ?_)) (ne_of_lt ?_)
    · exact bot_lt_iff_ne_bot.mpr isReal_hi.ne_bot
    · exact lt_max_of_lt_left (bot_lt_iff_ne_bot.mpr isReal_lo.ne_bot)
    · exact min_lt_of_left_lt (lt_top_iff_ne_top.mpr isReal_hi.ne_top)
  obtain ⟨r, h⟩ := h
  exact ⟨Real.exp r, by rw [scale, h]; rfl⟩

/-! ## The score -/

variable (a b : Fin 128 → EReal) (q s : EReal)

/-- The squared distance of two points. -/
def dist2 : EReal := max (∑ k, a k * a k + ∑ k, b k * b k - two * ∑ k, a k * b k) 0

/-- The score as the kernel writes it … -/
def kernelScore : EReal := Ideal.log (0 - Ideal.log q) - dist2 a b * s

/-- … and as the reference does. -/
def refScore : EReal := -(dist2 a b * s - Ideal.log (-Ideal.log q))

variable {a b q s}

theorem isReal_dist2 (ha : ∀ k, IsReal (a k)) (hb : ∀ k, IsReal (b k)) : IsReal (dist2 a b) :=
  (((IsReal.sum _ fun k => (ha k).mul (ha k)).add (IsReal.sum _ fun k => (hb k).mul (hb k))).sub
    (isReal_two.mul (IsReal.sum _ fun k => (ha k).mul (hb k)))).max .zero

/-- The two forms agree. -/
theorem kernelScore_eq (ha : ∀ k, IsReal (a k)) (hb : ∀ k, IsReal (b k)) (hs : IsReal s) :
    kernelScore a b q s = refScore a b q s := by
  have h := (isReal_dist2 ha hb).mul hs
  unfold kernelScore refScore
  rw [EReal.neg_sub (.inl h.ne_bot) (.inl h.ne_top), zero_sub, add_comm, ← sub_eq_add_neg]

/-- The logarithm of a positive number is above −∞. -/
theorem log_above {x : EReal} (h : 0 < x) : ⊥ < Ideal.log x := by
  induction x using EReal.rec with
  | bot => exact absurd h (by simp)
  | top => exact bot_lt_top
  | coe r =>
    have hr : ¬ r ≤ 0 := not_le.mpr (by exact_mod_cast h)
    show ⊥ < (if r ≤ 0 then ⊥ else (Real.log r : EReal))
    rw [if_neg hr]
    exact EReal.bot_lt_coe _

/-- The logarithm of a number below 1 is negative. -/
theorem log_neg {x : EReal} (h : x < 1) : Ideal.log x < 0 := by
  induction x using EReal.rec with
  | bot => exact EReal.bot_lt_zero
  | top => exact absurd h (by simp)
  | coe r =>
    have hr : r < 1 := by exact_mod_cast h
    show (if r ≤ 0 then ⊥ else (Real.log r : EReal)) < 0
    split
    · exact EReal.bot_lt_zero
    · rename_i h0
      exact_mod_cast Real.log_neg (not_le.mp h0) hr

/-- With `q` below 1 the score is above −∞. -/
theorem kernelScore_above (ha : ∀ k, IsReal (a k)) (hb : ∀ k, IsReal (b k)) (hs : IsReal s) (hq : q < 1) :
    ⊥ < kernelScore a b q s := by
  have h := (isReal_dist2 ha hb).mul hs
  have hl : ⊥ < Ideal.log (0 - Ideal.log q) := log_above (by rw [zero_sub]; exact EReal.neg_pos.mpr (log_neg hq))
  unfold kernelScore
  obtain ⟨r, hr⟩ := h
  rw [hr, sub_eq_add_neg, ← EReal.coe_neg, bot_lt_iff_ne_bot]
  exact fun e => (EReal.add_eq_bot_iff.mp e).elim hl.ne' (EReal.coe_ne_bot _)

end Cert.Score
-- ==== Proof.Score.Block.lean ====
/-
  The kernel's block of scores, read at a row and a column: the score formula of the row's point, the column's point, the
  entry of `q` and the scale.
-/
module

public import proofs.«01_k».proof.Proof.Select.Run
public import proofs.«01_k».proof.Proof.Score.Formula
public import Idealize.ShloMosaic.Lib.ValueIdx
public import Idealize.ShloMosaic.Lib.ValueLayout
public import Idealize.ShloMosaic.Lib.ValueLayoutCasts

@[expose] public section

noncomputable section

namespace Cert.KernelIdeal.Select

open Idealize.ShloMosaic Idealize.ShloMosaic.ValueIdx Cert.KernelIdeal
open Facts₀ Facts

variable [Facts]

/-- The product of the rows with the columns, at (row, column): the dot product of the two points. -/
theorem dot_apply (x : FVec Ideal S512x128 .f32) (y : FVec Ideal S2048x128 .f32) (r : Fin 512) (j : Fin 2048) :
    matmul dot_S512x128_S2048x128_S512x2048_1_1_0_0_n_n none x y (constant S512x2048 .f32 0x00000000#32) (ix2 r j)
      = ∑ k : Fin 128, x (ix2 r k) * y (ix2 j k) := by
  refine (Ideal.matmul_constant_zero_apply _ _ _ _ _).trans ?_
  refine ((contrEquiv1 dot_S512x128_S2048x128_S512x2048_1_1_0_0_n_n 128 rfl rfl).symm.sum_comp _).symm.trans ?_
  refine Finset.sum_congr rfl fun k _ => congrArg₂ (· * ·) (congrArg x (funext fun d => ?_)) (congrArg y (funext fun d => ?_))
  · match d with
    | ⟨0, _⟩ => rfl
    | ⟨1, _⟩ => rfl
  · match d with
    | ⟨0, _⟩ => rfl
    | ⟨1, _⟩ => rfl

/-- The squared norms of the rows, repeated along the columns … -/
theorem rowNorm_apply (x : FVec Ideal S512x128 .f32) (r : Fin 512) (j : Fin 2048) :
    broadcastTo S512x2048 (shapeCast S512x1 (multiReduction .add [1] S512 (mulf x x) 0x00000000#32 reduces_S512x128_S512 (.inl rfl) rfl)
        shapeCasts_S512_S512x1) broadcasts_S512x1_S512x2048 (ix2 r j) = ∑ k : Fin 128, x (ix2 r k) * x (ix2 r k) := by
  refine (broadcastTo_apply _ _ (ix2 r j) (ix2 r 0) fun a => ?_).trans ?_
  · match a with
    | ⟨0, _⟩ => rfl
    | ⟨1, _⟩ => rfl
  rw [shapeCast_a_a1_apply]
  refine (Ideal.multiReduction_add_single _ _ _ _ _ _).trans (Finset.sum_congr rfl fun k _ => ?_)
  have e : reduces_S512x128_S512.lift (ix1 r) k = ix2 r k := funext fun d => by
    match d with
    | ⟨0, _⟩ => rfl
    | ⟨1, _⟩ => rfl
  exact (congrArg (mulf x x) e).trans rfl

/-- … and of the columns, repeated along the rows. -/
theorem colNorm_apply (y : FVec Ideal S2048x128 .f32) (r : Fin 512) (j : Fin 2048) :
    broadcastTo S512x2048 (shapeCast S1x2048 (multiReduction .add [1] S2048 (mulf y y) 0x00000000#32 reduces_S2048x128_S2048 (.inl rfl) rfl)
        shapeCasts_S2048_S1x2048) broadcasts_S1x2048_S512x2048 (ix2 r j) = ∑ k : Fin 128, y (ix2 j k) * y (ix2 j k) := by
  rw [broadcastTo_1b_ab_apply, shapeCast_a_1a_apply]
  refine (Ideal.multiReduction_add_single _ _ _ _ _ _).trans (Finset.sum_congr rfl fun k _ => ?_)
  have e : reduces_S2048x128_S2048.lift (ix1 j) k = ix2 j k := funext fun d => by
    match d with
    | ⟨0, _⟩ => rfl
    | ⟨1, _⟩ => rfl
  exact (congrArg (mulf y y) e).trans rfl

/-- The operations of one entry, given its operands' entries. -/
theorem entry (A B D Q : FVec Ideal S512x2048 .f32) (c z z' e : Ideal .f32) (i : S512x2048.Idx) :
    subf (log (subf (broadcast S512x2048 z') (log Q)))
        (mulf (maximumf (subf (addf A B) (mulf (broadcast S512x2048 c) D)) (broadcast S512x2048 z)) (broadcast S512x2048 e)) i
      = (Ideal.log (z' - Ideal.log (Q i)) - max (A i + B i - c * D i) z * e : EReal) := rfl

/-- **A score of the block.** -/
theorem blockScore_apply (x0 : Vec Ideal S1 .f32) (x1 : Vec Ideal S1x512x128 .f32) (x2 : Vec Ideal S1x2048x128 .f32) (x3 : Vec Ideal S1x512x2048 .f32)
    (r : Fin 512) (j : Fin 2048) :
    blockScore (F := Ideal) x0 x1 x2 x3 (ix2 r j)
      = Score.kernelScore (fun k => x1 (ix3 0 r k)) (fun k => x2 (ix3 0 j k)) (x3 (ix3 0 r j)) (x0 (Shape.Idx.first (by decide))) := by
  have e1 : ∀ k : Fin 128, shapeCast S512x128 x1 shapeCasts_S1x512x128_S512x128 (ix2 r k) = x1 (ix3 0 r k) := fun k => shapeCast_1ab_ab_apply _ _ _ _
  have e2 : ∀ k : Fin 128, shapeCast S2048x128 x2 shapeCasts_S1x2048x128_S2048x128 (ix2 j k) = x2 (ix3 0 j k) := fun k => shapeCast_1ab_ab_apply _ _ _ _
  have e3 : shapeCast S512x2048 x3 shapeCasts_S1x512x2048_S512x2048 (ix2 r j) = x3 (ix3 0 r j) := shapeCast_1ab_ab_apply _ _ _ _
  refine (entry _ _ _ _ _ _ _ _ _).trans ?_
  rw [rowNorm_apply, colNorm_apply, dot_apply, e3]
  simp only [e1, e2]
  rw [show (Scalar.ofBits .f32 0x00000000#32 : Ideal .f32) = 0 from Ideal.ofBits_zero_f32]
  rfl

end Cert.KernelIdeal.Select
-- ==== Proof.Score.Whole.lean ====
/-
  The reference's array of scores, read at a batch, a row and a column: the score formula of the two points, the entry of
  `q` and the scale.
-/
module

public import proofs.«01_k».proof.Proof.Gen.ReferenceIdeal
public import proofs.«01_k».proof.Proof.Score.Formula
public import Idealize.ShloMosaic.Lib.ValueIdx
public import Idealize.ShloMosaic.Lib.Pipeline.Value

@[expose] public section

noncomputable section

namespace Cert.ReferenceIdeal.Scores

open Idealize.ShloMosaic Idealize.ShloMosaic.ValueIdx Cert.ReferenceIdeal
open Facts₀ Facts

variable [Facts]

variable (x : FVec Ideal S4x2048x128 .f32) (t : FVec Ideal S_ .f32) (q : FVec Ideal S4x2048x2048 .f32)

/-- The squared norms of the points. -/
abbrev norms : FVec Ideal S4x2048 .f32 := Host.reduceAdd (mulf x x) (constant S_ .f32 0x00000000#32) reducesTo_S4x2048x128_S4x2048_d2 h_S_

/-- The scores, in the reference's operations. -/
abbrev scores : FVec Ideal S4x2048x2048 .f32 :=
  Host.negf (subf (mulf (maximumf (subf (addf
    (broadcastInDim S4x2048x2048 ![0, 1, 2] bcast_S4x2048x1_S4x2048x2048_0_1_2 (broadcastInDim S4x2048x1 ![0, 1] bcast_S4x2048_S4x2048x1_0_1 (norms x)))
    (broadcastInDim S4x2048x2048 ![0, 1, 2] bcast_S4x1x2048_S4x2048x2048_0_1_2 (broadcastInDim S4x1x2048 ![0, 2] bcast_S4x2048_S4x1x2048_0_2 (norms x))))
    (mulf (broadcastInDim S4x2048x2048 ![] bcast_S_S4x2048x2048 (constant S_ .f32 0x40000000#32))
      (Host.dotGeneral dot_S4x2048x128_S4x2048x128_S4x2048x2048_2_2_1_1_0_0 none x x)))
    (broadcastInDim S4x2048x2048 ![] bcast_S_S4x2048x2048 (constant S_ .f32 0x00000000#32)))
    (broadcastInDim S4x2048x2048 ![] bcast_S_S4x2048x2048 (Host.exp (minimumf (id (constant S_ .f32 0x40A00000#32))
      (maximumf (id (constant S_ .f32 0xC0A00000#32)) t)))))
    (Host.log (Host.negf (Host.log q))))

variable (b : Fin 4) (r j : Fin 2048)

/-- The norm of a point is its sum of squares. -/
theorem norms_apply : norms x (ix2 b r) = ∑ k : Fin 128, x (ix3 b r k) * x (ix3 b r k) := by
  have hr : S4x2048x128.Reduces [2] S4x2048 := by decide
  refine (Ideal.hostReduceAdd_single reducesTo_S4x2048x128_S4x2048_d2 hr (mulf x x) _ (ix2 b r)).trans ?_
  have e : ∀ k : Fin 128, hr.lift (ix2 b r) k = ix3 b r k := fun k => funext fun d => by
    match d with
    | ⟨0, _⟩ => rfl
    | ⟨1, _⟩ => rfl
    | ⟨2, _⟩ => rfl
  refine (congrArg₂ (· + ·) Ideal.ofBits_zero_f32 (Finset.sum_congr rfl fun k _ => (congrArg (mulf x x) (e k)).trans rfl)).trans ?_
  exact zero_add _

/-- The norms along the columns and along the rows. -/
theorem rows_apply (n : FVec Ideal S4x2048 .f32) : broadcastInDim S4x2048x2048 ![0, 1, 2] bcast_S4x2048x1_S4x2048x2048_0_1_2
    (broadcastInDim S4x2048x1 ![0, 1] bcast_S4x2048_S4x2048x1_0_1 n) (ix3 b r j) = n (ix2 b r) := by
  refine (broadcastInDim_apply _ _ _ (ix3 b r j) (ix3 b r 0) fun a => ?_).trans (broadcastInDim_apply _ _ _ (ix3 b r 0) (ix2 b r) fun a => ?_)
  · match a with
    | ⟨0, _⟩ => rfl
    | ⟨1, _⟩ => rfl
    | ⟨2, _⟩ => rfl
  · match a with
    | ⟨0, _⟩ => rfl
    | ⟨1, _⟩ => rfl

theorem cols_apply (n : FVec Ideal S4x2048 .f32) : broadcastInDim S4x2048x2048 ![0, 1, 2] bcast_S4x1x2048_S4x2048x2048_0_1_2
    (broadcastInDim S4x1x2048 ![0, 2] bcast_S4x2048_S4x1x2048_0_2 n) (ix3 b r j) = n (ix2 b j) := by
  refine (broadcastInDim_apply _ _ _ (ix3 b r j) (ix3 b 0 j) fun a => ?_).trans (broadcastInDim_apply _ _ _ (ix3 b 0 j) (ix2 b j) fun a => ?_)
  · match a with
    | ⟨0, _⟩ => rfl
    | ⟨1, _⟩ => rfl
    | ⟨2, _⟩ => rfl
  · match a with
    | ⟨0, _⟩ => rfl
    | ⟨1, _⟩ => rfl

/-- A scalar repeated over the array. -/
theorem scalar_apply (v : FVec Ideal S_ .f32) (i : S4x2048x2048.Idx) : broadcastInDim S4x2048x2048 ![] bcast_S_S4x2048x2048 v i = v ix0 :=
  broadcastInDim_apply _ _ _ i ix0 fun a => a.elim0

/-- The products of the points. -/
theorem dot_apply : Host.dotGeneral dot_S4x2048x128_S4x2048x128_S4x2048x2048_2_2_1_1_0_0 none x x (ix3 b r j)
    = ∑ k : Fin 128, x (ix3 b r k) * x (ix3 b j k) := by
  refine (Ideal.dotGeneral_apply _ _ _ _ _ _).trans ?_
  refine ((contrEquiv1 dot_S4x2048x128_S4x2048x128_S4x2048x2048_2_2_1_1_0_0 128 rfl rfl).symm.sum_comp _).symm.trans ?_
  refine Finset.sum_congr rfl fun k _ => congrArg₂ (· * ·) (congrArg x (funext fun d => ?_)) (congrArg x (funext fun d => ?_))
  · match d with
    | ⟨0, _⟩ => rfl
    | ⟨1, _⟩ => rfl
    | ⟨2, _⟩ => rfl
  · match d with
    | ⟨0, _⟩ => rfl
    | ⟨1, _⟩ => rfl
    | ⟨2, _⟩ => rfl

/-- The operations of one entry, given its operands' entries. -/
theorem entry (A B D C Z E Q : FVec Ideal S4x2048x2048 .f32) (i : S4x2048x2048.Idx) :
    Host.negf (subf (mulf (maximumf (subf (addf A B) (mulf C D)) Z) E) (Host.log (Host.negf (Host.log Q)))) i
      = -((max (A i + B i - C i * D i) (Z i)) * E i - Ideal.log (-Ideal.log (Q i)) : EReal) := rfl

/-- **A score of the reference.** -/
theorem scores_apply : scores x t q (ix3 b r j)
    = Score.refScore (fun k => x (ix3 b r k)) (fun k => x (ix3 b j k)) (q (ix3 b r j)) (Score.scale (t ix0)) := by
  rw [scores, entry, rows_apply, cols_apply, norms_apply, norms_apply, dot_apply, scalar_apply, scalar_apply, scalar_apply]
  unfold Score.refScore Score.dist2
  rw [show (constant S_ .f32 0x00000000#32 : FVec Ideal S_ .f32) ix0 = 0 from Ideal.ofBits_zero_f32]
  rfl

end Cert.ReferenceIdeal.Scores
-- ==== Proof.Score.Points.lean ====
/-
  Where the blocks of a grid point lie: point `t` works on batch `t / 4`, on the rows of tile `t mod 4` (512 rows each) and
  on all 2048 columns.
-/
module

public import proofs.«01_k».proof.Proof.Select.Frame
public import Idealize.ShloMosaic.Lib.Pipeline.Value
public import Idealize.ShloMosaic.Lib.ValueIdx

@[expose] public section

noncomputable section

namespace Cert.KernelIdeal.Select

open Cert.KernelIdeal Cert.KernelIdeal.Gen
open Idealize.ShloMosaic Idealize.ShloMosaic.TcCoe Idealize.ShloMosaic.ValueIdx Idealize.SL.Sem
open Idealize.ShloMosaic.Pipeline (Window)

variable {F : FTy → Type} [FloatOps F]
variable (m : (ℓ : Loc nD τ sig) → Buf (Elt F) ℓ) (c : Dev nD) (t : Fin cfg0.N)

theorem point_lt : t.val < 16 := by have := t.isLt; have h : cfg0.N = 16 := N_0; omega

/-- The batch of a point. -/
def batch : Fin 4 := ⟨t.val / 4, by have := point_lt t; omega⟩

/-- The array's row of a tile's row. -/
def rowAt (r : Fin 512) : Fin 2048 := ⟨t.val % 4 * 512 + r.val, by omega⟩

/-! ## The windows' corners -/

theorem corner1 (t : Fin grid0.N) : win0_1.index t 0 * win0_1.size 0 = t.val / 4 ∧ win0_1.index t 1 * win0_1.size 1 = t.val % 4 * 512
    ∧ win0_1.index t 2 * win0_1.size 2 = 0 := by
  rcases fin_N0 t with rfl | rfl | rfl | rfl | rfl | rfl | rfl | rfl | rfl | rfl | rfl | rfl | rfl | rfl | rfl | rfl <;> decide +kernel

theorem corner2 (t : Fin grid0.N) : win0_2.index t 0 * win0_2.size 0 = t.val / 4 ∧ win0_2.index t 1 * win0_2.size 1 = 0
    ∧ win0_2.index t 2 * win0_2.size 2 = 0 := by
  rcases fin_N0 t with rfl | rfl | rfl | rfl | rfl | rfl | rfl | rfl | rfl | rfl | rfl | rfl | rfl | rfl | rfl | rfl <;> decide +kernel

theorem corner3 (t : Fin grid0.N) : win0_3.index t 0 * win0_3.size 0 = t.val / 4 ∧ win0_3.index t 1 * win0_3.size 1 = t.val % 4 * 512
    ∧ win0_3.index t 2 * win0_3.size 2 = 0 := by
  rcases fin_N0 t with rfl | rfl | rfl | rfl | rfl | rfl | rfl | rfl | rfl | rfl | rfl | rfl | rfl | rfl | rfl | rfl <;> decide +kernel

theorem corner4 (t : Fin grid0.N) : win0_4.index t 0 * win0_4.size 0 = t.val / 4 ∧ win0_4.index t 1 * win0_4.size 1 = t.val % 4 * 512
    ∧ win0_4.index t 2 * win0_4.size 2 = 0 := by
  rcases fin_N0 t with rfl | rfl | rfl | rfl | rfl | rfl | rfl | rfl | rfl | rfl | rfl | rfl | rfl | rfl | rfl | rfl <;> decide +kernel

theorem corner5 (t : Fin grid0.N) : win0_5.index t 0 * win0_5.size 0 = t.val / 4 ∧ win0_5.index t 1 * win0_5.size 1 = t.val % 4 * 512
    ∧ win0_5.index t 2 * win0_5.size 2 = 0 := by
  rcases fin_N0 t with rfl | rfl | rfl | rfl | rfl | rfl | rfl | rfl | rfl | rfl | rfl | rfl | rfl | rfl | rfl | rfl <;> decide +kernel

/-! ## Where a block's entry lies in its array -/

theorem emb1 (u : Fin 1) (r : Fin 512) (k : Fin 128) : (win0_1.rect t).emb (ix3 u r k) = ix3 (batch t) (rowAt t r) k := by
  have h := corner1 t
  funext a
  refine Fin.ext ((Window.rect_emb_val win0_1 t (ix3 u r k) a).trans ?_)
  match a with
  | ⟨0, _⟩ => have := u.isLt; exact (congrArg (· + u.val) h.1).trans (by show t.val / 4 + u.val = t.val / 4; omega)
  | ⟨1, _⟩ => exact congrArg (· + r.val) h.2.1
  | ⟨2, _⟩ => exact (congrArg (· + k.val) h.2.2).trans (Nat.zero_add _)

theorem emb2 (u : Fin 1) (j : Fin 2048) (k : Fin 128) : (win0_2.rect t).emb (ix3 u j k) = ix3 (batch t) j k := by
  have h := corner2 t
  funext a
  refine Fin.ext ((Window.rect_emb_val win0_2 t (ix3 u j k) a).trans ?_)
  match a with
  | ⟨0, _⟩ => have := u.isLt; exact (congrArg (· + u.val) h.1).trans (by show t.val / 4 + u.val = t.val / 4; omega)
  | ⟨1, _⟩ => exact (congrArg (· + j.val) h.2.1).trans (Nat.zero_add _)
  | ⟨2, _⟩ => exact (congrArg (· + k.val) h.2.2).trans (Nat.zero_add _)

theorem emb3 (u : Fin 1) (r : Fin 512) (j : Fin 2048) : (win0_3.rect t).emb (ix3 u r j) = ix3 (batch t) (rowAt t r) j := by
  have h := corner3 t
  funext a
  refine Fin.ext ((Window.rect_emb_val win0_3 t (ix3 u r j) a).trans ?_)
  match a with
  | ⟨0, _⟩ => have := u.isLt; exact (congrArg (· + u.val) h.1).trans (by show t.val / 4 + u.val = t.val / 4; omega)
  | ⟨1, _⟩ => exact congrArg (· + r.val) h.2.1
  | ⟨2, _⟩ => exact (congrArg (· + j.val) h.2.2).trans (Nat.zero_add _)

theorem emb4 (u : Fin 1) (r : Fin 512) (k : Fin 16) : (win0_4.rect t).emb (ix3 u r k) = ix3 (batch t) (rowAt t r) k := by
  have h := corner4 t
  funext a
  refine Fin.ext ((Window.rect_emb_val win0_4 t (ix3 u r k) a).trans ?_)
  match a with
  | ⟨0, _⟩ => have := u.isLt; exact (congrArg (· + u.val) h.1).trans (by show t.val / 4 + u.val = t.val / 4; omega)
  | ⟨1, _⟩ => exact congrArg (· + r.val) h.2.1
  | ⟨2, _⟩ => exact (congrArg (· + k.val) h.2.2).trans (Nat.zero_add _)

theorem emb5 (u : Fin 1) (r : Fin 512) (k : Fin 16) : (win0_5.rect t).emb (ix3 u r k) = ix3 (batch t) (rowAt t r) k := by
  have h := corner5 t
  funext a
  refine Fin.ext ((Window.rect_emb_val win0_5 t (ix3 u r k) a).trans ?_)
  match a with
  | ⟨0, _⟩ => have := u.isLt; exact (congrArg (· + u.val) h.1).trans (by show t.val / 4 + u.val = t.val / 4; omega)
  | ⟨1, _⟩ => exact congrArg (· + r.val) h.2.1
  | ⟨2, _⟩ => exact (congrArg (· + k.val) h.2.2).trans (Nat.zero_add _)

/-! ## The input blocks, read -/

/-- The rows' points. -/
theorem iblk1_apply (u : Fin 1) (r : Fin 512) (k : Fin 128) :
    iblk m c 1 t (ix3 u r k) = m ((c : Thread nD τ).loc main_arg0) (ix3 (batch t) (rowAt t r) k) :=
  (congrArg (V m c main_arg0) (emb1 t u r k)).trans (congrFun (V_main_arg0 m c) _)

/-- The columns' points. -/
theorem iblk2_apply (u : Fin 1) (j : Fin 2048) (k : Fin 128) :
    iblk m c 2 t (ix3 u j k) = m ((c : Thread nD τ).loc main_arg0) (ix3 (batch t) j k) :=
  (congrArg (V m c main_arg0) (emb2 t u j k)).trans (congrFun (V_main_arg0 m c) _)

/-- The entries of `q`. -/
theorem iblk3_apply (u : Fin 1) (r : Fin 512) (j : Fin 2048) :
    iblk m c 3 t (ix3 u r j) = m ((c : Thread nD τ).loc main_arg3) (ix3 (batch t) (rowAt t r) j) :=
  (congrArg (V m c main_arg3) (emb3 t u r j)).trans (congrFun (V_main_arg3 m c) _)

instance : Subsingleton S1.Idx := ⟨fun a b => funext fun d => by
  match d with
  | ⟨0, _⟩ => exact Subsingleton.elim (α := Fin 1) _ _⟩

/-- The scale's one entry. -/
theorem iblk0_apply (i : S1.Idx) : iblk m c 0 t i = V m c main_v2 i :=
  congrArg (V m c main_v2) (Subsingleton.elim (α := S1.Idx) ((win0_0.rect t).emb i) i)

/-! ## The output blocks cover their arrays -/

/-- The point that works on a batch's row. -/
def pointOf (b : Fin 4) (r : Fin 2048) : Fin cfg0.N := ⟨b.val * 4 + r.val / 512, by have h : cfg0.N = 16 := N_0; omega⟩

/-- The row in its tile. -/
def rowIn (r : Fin 2048) : Fin 512 := ⟨r.val % 512, by omega⟩

theorem batch_pointOf (b : Fin 4) (r : Fin 2048) : batch (pointOf b r) = b := Fin.ext (by show (b.val * 4 + r.val / 512) / 4 = b.val; omega)

theorem rowAt_pointOf (b : Fin 4) (r : Fin 2048) : rowAt (pointOf b r) (rowIn r) = r :=
  Fin.ext (by show (b.val * 4 + r.val / 512) % 4 * 512 + r.val % 512 = r.val; omega)

theorem mem4 (b : Fin 4) (r : Fin 2048) (k : Fin 16) : (ix3 b r k : S4x2048x16.Idx) ∈ ((cfg0.win 4).blk (pointOf b r)).view.set := by
  have h : (win0_4.rect (pointOf b r)).emb (ix3 (0 : Fin 1) (rowIn r) k) = ix3 b r k := by
    rw [emb4, batch_pointOf, rowAt_pointOf]
  exact Eq.subst (motive := fun i : S4x2048x16.Idx => i ∈ ((cfg0.win 4).blk (pointOf b r)).view.set) h
    (((cfg0.win 4).blk (pointOf b r)).view.emb_mem_set (ix3 (0 : Fin 1) (rowIn r) k))

theorem cover4 (i : S4x2048x16.Idx) : ∃ t : Fin cfg0.N, (cfg0.win 4).flush t = true ∧ i ∈ ((cfg0.win 4).blk t).view.set := by
  obtain ⟨b, r, k, rfl⟩ : ∃ (b : Fin 4) (r : Fin 2048) (k : Fin 16), i = ix3 b r k := ⟨i 0, i 1, i 2, eq_ix3 i⟩
  exact ⟨pointOf b r, flush0_4 _, mem4 b r k⟩

theorem mem5 (b : Fin 4) (r : Fin 2048) (k : Fin 16) : (ix3 b r k : S4x2048x16.Idx) ∈ ((cfg0.win 5).blk (pointOf b r)).view.set := by
  have h : (win0_5.rect (pointOf b r)).emb (ix3 (0 : Fin 1) (rowIn r) k) = ix3 b r k := by
    rw [emb5, batch_pointOf, rowAt_pointOf]
  exact Eq.subst (motive := fun i : S4x2048x16.Idx => i ∈ ((cfg0.win 5).blk (pointOf b r)).view.set) h
    (((cfg0.win 5).blk (pointOf b r)).view.emb_mem_set (ix3 (0 : Fin 1) (rowIn r) k))

theorem cover5 (i : S4x2048x16.Idx) : ∃ t : Fin cfg0.N, (cfg0.win 5).flush t = true ∧ i ∈ ((cfg0.win 5).blk t).view.set := by
  obtain ⟨b, r, k, rfl⟩ : ∃ (b : Fin 4) (r : Fin 2048) (k : Fin 16), i = ix3 b r k := ⟨i 0, i 1, i 2, eq_ix3 i⟩
  exact ⟨pointOf b r, flush0_5 _, mem5 b r k⟩

/-- So an output array ends at any function whose blocks are what the points leave. -/
theorem arrAt4_eq (G : S4x2048x16.Idx → F .f32)
    (hG : ∀ t u r k, resV (ptScore m c t) (ix3 u r k) = G (ix3 (batch t) (rowAt t r) k)) : (dats m 0 c).arrAt 4 cfg0.N = G := by
  refine (dats m 0 c).arrAt_eq_of_cover 4 G (fun t _ => ?_) cover4
  show (cfg0.win 4).cut (grid0.coords t) ((dats m 0 c).after 4 t) = _
  rw [after4]
  refine funext fun y => ?_
  obtain ⟨u, r, k, rfl⟩ : ∃ (u : Fin 1) (r : Fin 512) (k : Fin 16), y = (ix3 u r k : S1x512x16.Idx) := ⟨y 0, y 1, y 2, eq_ix3 (n0 := 1) (n1 := 512) (n2 := 16) y⟩
  exact (hG t _ _ _).trans (congrArg G (emb4 t _ _ _)).symm

theorem arrAt5_eq (G : S4x2048x16.Idx → BitVec 32)
    (hG : ∀ t u r k, resI (ptScore m c t) (ix3 u r k) = G (ix3 (batch t) (rowAt t r) k)) : (dats m 0 c).arrAt 5 cfg0.N = G := by
  refine (dats m 0 c).arrAt_eq_of_cover 5 G (fun t _ => ?_) cover5
  show (cfg0.win 5).cut (grid0.coords t) ((dats m 0 c).after 5 t) = _
  rw [after5]
  refine funext fun y => ?_
  obtain ⟨u, r, k, rfl⟩ : ∃ (u : Fin 1) (r : Fin 512) (k : Fin 16), y = (ix3 u r k : S1x512x16.Idx) := ⟨y 0, y 1, y 2, eq_ix3 (n0 := 1) (n1 := 512) (n2 := 16) y⟩
  exact (hG t _ _ _).trans (congrArg G (emb5 t _ _ _)).symm

end Cert.KernelIdeal.Select
-- ==== Proof.Score.Tail.lean ====
/-
  The host lines around the kernel's launch: the scale they hand to it, and the edge list they make of the positions it
  leaves.
-/
module

public import proofs.«01_k».proof.Proof.Select.Frame
public import Idealize.ShloMosaic.Lib.StableHlo.Run

@[expose] public section

noncomputable section

namespace Cert.KernelIdeal.Select

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The scale as the host computes it: the exponential of the clipped temperature, as an array of one entry. -/
def hostScale (x : FVec F S_ .f32) : FVec F S1 .f32 :=
  shapeCast S1 (Host.exp (minimumf (id (constant S_ .f32 0x40A00000#32)) (maximumf (id (constant S_ .f32 0xC0A00000#32)) x))) shapeCasts_S_S1

/-- The launch finds the scale in its first operand. -/
theorem V_main_v2 (c : Dev nD) : V m c main_v2 = hostScale (m ((c : Thread nD τ).loc main_arg2)) := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append, List.nil_append,
    TRef.binary, TRef.unary, TRef.toBuf, TRef.ofBuf, cast_eq]
  after_results_simp <;> rfl

/-- Two edge ends side by side. -/
def joinEnds (a b : IVec S4x1x32768 32) : IVec S4x2x32768 32 :=
  concatenate S4x2x32768 1 [⟨S4x1x32768, a⟩, ⟨S4x1x32768, b⟩] concatenates_S4x1x32768_S4x1x32768_S4x2x32768_d1

/-- The edge list of an array of positions: each position with its row, both shifted by the batch's first node. -/
def edges (p : IVec S4x2048x16 32) : IVec S2x131072 32 :=
  shapeCast _ (transpose S2x4x32768 [1, 0, 2] (addi
    (joinEnds (broadcastInDim S4x1x32768 ![0, 2] bcast_S4x32768_S4x1x32768_0_2 (shapeCast _ p shapeCasts_S4x2048x16_S4x32768))
      (broadcastInDim S4x1x32768 ![0, 2] bcast_S4x32768_S4x1x32768_0_2 (shapeCast _ (broadcastInDim S4x2048x16 ![0, 1, 2]
        bcast_S1x2048x1_S4x2048x16_0_1_2 (broadcastInDim S1x2048x1 ![1] bcast_S2048_S1x2048x1_1 (iotaInDim S2048 32 0))) shapeCasts_S4x2048x16_S4x32768)))
    (broadcastInDim S4x2x32768 ![0, 1, 2] bcast_S4x1x1_S4x2x32768_0_1_2 (broadcastInDim S4x1x1 ![0] bcast_S4_S4x1x1_0
      (muli (iotaInDim S4 32 0) (broadcastInDim S4 ![] bcast_S_S4 (constantI S_ 32 2048#32))))))
    transposes_S4x2x32768_S2x4x32768_1_0_2) shapeCasts_S2x4x32768_S2x131072

/-- The host lines after the launch, the joining one by name. -/
def tailOps : List (HloOp τ sig (Elt F)) :=
  [ nullary main_v4 (iotaInDim S2048 32 0),
    unary main_v4 main_v5 (broadcastInDim S1x2048x1 ![1] bcast_S2048_S1x2048x1_1 : (⟨S2048, .i32⟩ : BufTy).Contents (Elt F) → (⟨S1x2048x1, .i32⟩ : BufTy).Contents (Elt F)),
    unary main_v5 main_v6 (broadcastInDim S4x2048x16 ![0, 1, 2] bcast_S1x2048x1_S4x2048x16_0_1_2 : (⟨S1x2048x1, .i32⟩ : BufTy).Contents (Elt F) → (⟨S4x2048x16, .i32⟩ : BufTy).Contents (Elt F)),
    reshape main_v3_1 main_v7 (rfl : (.i32 : EltTy) = .i32) shapeCasts_S4x2048x16_S4x32768,
    reshape main_v6 main_v8 (rfl : (.i32 : EltTy) = .i32) shapeCasts_S4x2048x16_S4x32768,
    unary main_v7 main_v9 (broadcastInDim S4x1x32768 ![0, 2] bcast_S4x32768_S4x1x32768_0_2 : (⟨S4x32768, .i32⟩ : BufTy).Contents (Elt F) → (⟨S4x1x32768, .i32⟩ : BufTy).Contents (Elt F)),
    unary main_v8 main_v10 (broadcastInDim S4x1x32768 ![0, 2] bcast_S4x32768_S4x1x32768_0_2 : (⟨S4x32768, .i32⟩ : BufTy).Contents (Elt F) → (⟨S4x1x32768, .i32⟩ : BufTy).Contents (Elt F)),
    binary main_v9 main_v10 main_v11 (joinEnds : (⟨S4x1x32768, .i32⟩ : BufTy).Contents (Elt F) → (⟨S4x1x32768, .i32⟩ : BufTy).Contents (Elt F) → (⟨S4x2x32768, .i32⟩ : BufTy).Contents (Elt F)),
    nullary main_v12 (iotaInDim S4 32 0),
    nullary main_c (constantI S_ 32 2048#32),
    unary main_c main_v13 (broadcastInDim S4 ![] bcast_S_S4 : (⟨S_, .i32⟩ : BufTy).Contents (Elt F) → (⟨S4, .i32⟩ : BufTy).Contents (Elt F)),
    binary main_v12 main_v13 main_v14 (muli : (⟨S4, .i32⟩ : BufTy).Contents (Elt F) → (⟨S4, .i32⟩ : BufTy).Contents (Elt F) → (⟨S4, .i32⟩ : BufTy).Contents (Elt F)),
    unary main_v14 main_v15 (broadcastInDim S4x1x1 ![0] bcast_S4_S4x1x1_0 : (⟨S4, .i32⟩ : BufTy).Contents (Elt F) → (⟨S4x1x1, .i32⟩ : BufTy).Contents (Elt F)),
    unary main_v15 main_v16 (broadcastInDim S4x2x32768 ![0, 1, 2] bcast_S4x1x1_S4x2x32768_0_1_2 : (⟨S4x1x1, .i32⟩ : BufTy).Contents (Elt F) → (⟨S4x2x32768, .i32⟩ : BufTy).Contents (Elt F)),
    binary main_v11 main_v16 main_v17 (addi : (⟨S4x2x32768, .i32⟩ : BufTy).Contents (Elt F) → (⟨S4x2x32768, .i32⟩ : BufTy).Contents (Elt F) → (⟨S4x2x32768, .i32⟩ : BufTy).Contents (Elt F)),
    unary main_v17 main_v18 ((transpose S2x4x32768 [1, 0, 2] · transposes_S4x2x32768_S2x4x32768_1_0_2) : (⟨S4x2x32768, .i32⟩ : BufTy).Contents (Elt F) → (⟨S2x4x32768, .i32⟩ : BufTy).Contents (Elt F)),
    reshape main_v18 main_v19 (rfl : (.i32 : EltTy) = .i32) shapeCasts_S2x4x32768_S2x131072 ]

theorem tailOps_eq : (hostOps1 : List (HloOp τ sig (Elt F))) = tailOps := rfl

/-- From any contents, they leave the edge list of the positions. -/
theorem after_tailOps (W : Valuation τ sig (Elt F)) :
    StableHlo.after tailOps W (Proc.devRef .tc main_v19) = edges (W (Proc.devRef .tc main_v3_1)) := by
  simp only [tailOps]
  after_results_simp <;> rfl

/-- The edge list after the launch is that of the positions' final array. -/
theorem W_main_v19 (c : Dev nD) : Pipeline.afterTail₀ cfgs (dats m) 0 (V0 m) [hostOps1] c main_v19
    = edges ((dats m 0 c).arrAt 5 cfg0.N) := by
  unfold Pipeline.afterTail₀
  rw [List.flatten_cons, List.flatten_nil, List.append_nil, tailOps_eq, after_tailOps]
  refine congrArg edges ?_
  exact Pipeline.withArrays_arr_shared spec0 c (V0 m c) (fun w => (dats m 0 c).arrAt w cfg0.N)
    ((dats m 0 c).arrAt_sharedIn sharedIn0 (V0 m c) (A_eq m c) _) 5

end Cert.KernelIdeal.Select
-- ==== Proof.Score.Value.lean ====
/-
  The kernel's three results, read over the extended reals: the values and the positions it leaves are the first sixteen of
  the reference's scores in each row, and the edge list is made of those positions.
-/
module

public import proofs.«01_k».proof.Proof.Select.Fallback
public import proofs.«01_k».proof.Proof.Select.TopK
public import proofs.«01_k».proof.Proof.Score.Block
public import proofs.«01_k».proof.Proof.Score.Whole
public import proofs.«01_k».proof.Proof.Score.Points
public import proofs.«01_k».proof.Proof.Score.Tail

@[expose] public section

noncomputable section

namespace Cert.KernelIdeal.Select

open Cert.KernelIdeal Cert.KernelIdeal.Gen Cert.Pick
open Idealize.ShloMosaic Idealize.ShloMosaic.TcCoe Idealize.ShloMosaic.ValueIdx Idealize.SL.Sem

/-- The scale the host hands over is the formula's. -/
theorem hostScale_apply (x : FVec Ideal S_ .f32) (i : S1.Idx) : hostScale x i = Score.scale (x ix0) := by
  unfold hostScale
  refine (shapeCast_apply _ shapeCasts_S_S1 i ix0 ?_).trans rfl
  have h1 := (S_.rowMajor ix0).isLt
  have h2 := (S1.rowMajor i).isLt
  have e1 : S_.numel = 1 := by decide
  have e2 : S1.numel = 1 := by decide
  omega

variable (m : (ℓ : Loc nD τ sig) → Buf (Elt Ideal) ℓ) (ρ : Dev nD → PrngReg) (c : Dev nD)

/-- The points, the temperature and `q`. -/
abbrev pts : FVec Ideal S4x2048x128 .f32 := m ((c : Thread nD τ).loc main_arg0)
abbrev temp : FVec Ideal S_ .f32 := m ((c : Thread nD τ).loc main_arg2)
abbrev qs : FVec Ideal S4x2048x2048 .f32 := m ((c : Thread nD τ).loc main_arg3)

/-- The reference's scores of the kernel's arguments. -/
abbrev refScores : FVec Ideal S4x2048x2048 .f32 := Cert.ReferenceIdeal.Scores.scores (pts m c) (temp m c) (qs m c)

/-- The reference's selection from them. -/
abbrev topValues : FVec Ideal S4x2048x16 .f32 :=
  (Host.topK S4x2048x16 2 (FloatOps.cmpfTotal (F := Ideal) (φ := .f32) .gt) (refScores m c) Cert.ReferenceIdeal.Gen.sliceFits_S4x2048x2048_S4x2048x16).1
abbrev topPositions : IVec S4x2048x16 32 :=
  (Host.topK S4x2048x16 2 (FloatOps.cmpfTotal (F := Ideal) (φ := .f32) .gt) (refScores m c) Cert.ReferenceIdeal.Gen.sliceFits_S4x2048x2048_S4x2048x16).2

/-- A point's block of scores, in the kernel's form of the formula. -/
theorem ptScore_apply (t : Fin cfg0.N) (r : Fin 512) (j : Fin 2048) : ptScore m c t (ix2 r j)
    = Score.kernelScore (fun k => pts m c (ix3 (batch t) (rowAt t r) k)) (fun k => pts m c (ix3 (batch t) j k))
        (qs m c (ix3 (batch t) (rowAt t r) j)) (Score.scale (temp m c ix0)) := by
  refine (blockScore_apply _ _ _ _ r j).trans ?_
  have e1 : ∀ k : Fin 128, iblk m c 1 t (ix3 0 r k) = pts m c (ix3 (batch t) (rowAt t r) k) := fun k => iblk1_apply m c t 0 r k
  have e2 : ∀ k : Fin 128, iblk m c 2 t (ix3 0 j k) = pts m c (ix3 (batch t) j k) := fun k => iblk2_apply m c t 0 j k
  have e3 : iblk m c 3 t (ix3 0 r j) = qs m c (ix3 (batch t) (rowAt t r) j) := iblk3_apply m c t 0 r j
  have e0 : ∀ i : S1.Idx, iblk m c 0 t i = Score.scale (temp m c ix0) := fun i =>
    (iblk0_apply m c t i).trans ((congrFun (V_main_v2 m c) _).trans (hostScale_apply _ _))
  rw [show (fun k => iblk m c 1 t (ix3 0 r k)) = fun k => pts m c (ix3 (batch t) (rowAt t r) k) from funext e1,
    show (fun k => iblk m c 2 t (ix3 0 j k)) = fun k => pts m c (ix3 (batch t) j k) from funext e2, e3, e0]

variable (hx : ∀ i, Score.IsReal (pts m c i)) (hq : ∀ i, (qs m c i : EReal) < 1)
include hx

/-- The kernel's row of scores is the reference's … -/
theorem row_eq (t : Fin cfg0.N) (r : Fin 512) :
    row (ptScore m c t) r = fun j => refScores m c (ix3 (batch t) (rowAt t r) j) := funext fun j =>
  (ptScore_apply m c t r j).trans ((Score.kernelScore_eq (fun _ => hx _) (fun _ => hx _) (Score.isReal_scale _)).trans
    (Cert.ReferenceIdeal.Scores.scores_apply _ _ _ _ _ _).symm)

include hq

/-- … and above −∞. -/
theorem row_above (t : Fin cfg0.N) (r : Fin 512) (j : Fin 2048) : ⊥ < row (ptScore m c t) r j :=
  lt_of_lt_of_eq (Score.kernelScore_above (fun _ => hx _) (fun _ => hx _) (Score.isReal_scale _) (hq _)) (ptScore_apply m c t r j).symm

/-- The positions the kernel picks are the first sixteen of the reference's row. -/
theorem picks (t : Fin cfg0.N) (r : Fin 512) :
    IsPicks (fun j => refScores m c (ix3 (batch t) (rowAt t r) j)) (fun d => arg (iter (row (ptScore m c t) r) d)) 16 := by
  have h := (iter_picks (row_above m c hx hq t r) (k := 16) (by omega)).1
  rw [row_eq m c hx t r] at h ⊢
  exact h

/-- **The values the kernel leaves are the reference's.** -/
theorem values_eq : (dats m 0 c).arrAt 4 cfg0.N = topValues m c := by
  refine arrAt4_eq m c _ fun t u r k => ?_
  refine (resV_apply _ r (row_above m c hx hq t r) u k).trans ?_
  refine Eq.trans ?_ (topK_value (refScores m c) _ (batch t) (rowAt t r) (by omega) (picks m c hx hq t r) k).symm
  exact congrFun (row_eq m c hx t r) _

/-- **The positions the kernel leaves are the reference's.** -/
theorem positions_eq : (dats m 0 c).arrAt 5 cfg0.N = topPositions m c := by
  refine arrAt5_eq m c _ fun t u r k => ?_
  exact (resI_apply _ r (row_above m c hx hq t r) u k).trans
    (topK_position (refScores m c) _ (batch t) (rowAt t r) (by omega) (picks m c hx hq t r) k).symm

omit hx hq

/-- **The kernel's run**: the points as they were, the edge list of the reference's positions, the reference's values. -/
theorem value_main (hx : ∀ c i, Score.IsReal (pts m c i)) (hq : ∀ c i, (qs m c i : EReal) < 1) :
    θ_run defs (onTc (τ := τ) (main (F := Ideal))) ⟨m, fun _ => 0, ρ⟩ fun r => ∀ c : Dev nD,
      r.2.mem ((c.tc : Thread nD τ).loc main_v19) = edges (topPositions m c)
      ∧ r.2.mem ((c.tc : Thread nD τ).loc main_v3_0) = topValues m c :=
  (θ_run defs _ _).mono (fun _ h c => ⟨((h c).2 main_v19 (Pipeline.mem_restRefs_of main_v19 (by decide) (by decide))).trans
      ((W_main_v19 m c).trans (congrArg edges (positions_eq m c (hx c) (hq c)))),
    ((h c).1 4).trans (values_eq m c (hx c) (hq c))⟩) (run_main m ρ)

end Cert.KernelIdeal.Select
-- ==== Proof.Score.Precondition.lean ====
/-
  What the precondition says of the arguments: every point's coordinate is finite and every entry of `q` is below 1.
-/
module

public import proofs.«01_k».proof.Pre_scores_above_bottom
public import proofs.«01_k».proof.Proof.Score.Formula
public import Idealize.ShloMosaic.Lib.ReduceAll
public import Idealize.ShloMosaic.Lib.Pipeline.Value
public import Idealize.ShloMosaic.Lib.ValueIdx

@[expose] public section

noncomputable section

namespace Cert.Precondition

open Idealize.ShloMosaic Idealize.ShloMosaic.ValueIdx Cert.Pre_scores_above_bottom
open Facts

/-- The precondition's side conditions. -/
theorem facts : Facts where
  bcast_S_S4x2048x128 := by decide
  reducesTo_S4x2048x128_S_d0_1_2 := by decide
  h_S_ := by decide
  bcast_S_S4x2048x2048 := by decide
  reducesTo_S4x2048x2048_S_d0_1_2 := by decide

variable [Facts]

instance : Subsingleton S_.Idx := ⟨fun a b => funext fun d => d.elim0⟩

/-- The literal +∞ … -/
theorem ofBits_top : Ideal.ofBits .f32 0x7F800000#32 = ⊤ := by simp [Ideal.ofBits, Ideal.ieee]

/-- … and the literal 1. -/
theorem ofBits_one : Ideal.ofBits .f32 0x3F800000#32 = 1 := by
  simp [Ideal.ofBits, Ideal.ieee]
  rw [← EReal.coe_mul]
  norm_num

theorem and_left {a b : BitVec 1} (h : IntOp.andi a b = 1#1) : a = 1#1 := (IntOp.andi_eq_one.1 h).1
theorem and_right {a b : BitVec 1} (h : IntOp.andi a b = 1#1) : b = 1#1 := (IntOp.andi_eq_one.1 h).2

/-- A bit made of a proposition is 1 only if it holds. -/
theorem of_bit {p : Prop} [Decidable p] (h : BitVec.ofBool (decide p) = 1#1) : p := by
  by_contra hp
  rw [decide_eq_false hp] at h
  exact absurd h (by decide)

/-- A number whose absolute value is below +∞ is finite. -/
theorem isReal_of_abs {x : EReal} (h : max x (-x) < ⊤) : Score.IsReal x := by
  refine Score.isReal_of_ne ?_ (ne_of_lt (lt_of_le_of_lt (le_max_left _ _) h))
  rintro rfl
  exact absurd (lt_of_le_of_lt (le_max_right _ _) h) (by simp)

variable {x : FVec Ideal S4x2048x128 .f32} {s : FVec Ideal S1 .f32} {t : FVec Ideal S_ .f32} {q : FVec Ideal S4x2048x2048 .f32}

/-- Every coordinate is finite. -/
theorem points_finite (h : fn (F := Ideal) x s t q = fun _ => 1#1) (i : S4x2048x128.Idx) : Score.IsReal (x i) := by
  have h1 := Host.reduce_andi_all _ _ _ _ _ (and_left (congrFun h ix0)) i
  have h2 : max (x i) (-(x i)) < broadcastInDim S4x2048x128 ![] bcast_S_S4x2048x128 (constant S_ .f32 0x7F800000#32 : FVec Ideal S_ .f32) i := of_bit h1
  rw [broadcastInDim_apply _ _ _ i ix0 fun a => a.elim0] at h2
  exact isReal_of_abs (lt_of_lt_of_eq h2 ofBits_top)

/-- Every entry of `q` is below 1. -/
theorem q_below_one (h : fn (F := Ideal) x s t q = fun _ => 1#1) (i : S4x2048x2048.Idx) : (q i : EReal) < 1 := by
  have h1 := Host.reduce_andi_all _ _ _ _ _ (and_right (congrFun h ix0)) i
  have h2 : (q i : EReal) < broadcastInDim S4x2048x2048 ![] bcast_S_S4x2048x2048 (constant S_ .f32 0x3F800000#32 : FVec Ideal S_ .f32) i := of_bit h1
  rw [broadcastInDim_apply _ _ _ i ix0 fun a => a.elim0] at h2
  exact lt_of_lt_of_eq h2 ofBits_one

end Cert.Precondition
-- ==== Proof.lean ====
/-
  The certificate of the blocked nearest-neighbour selection kernel: the frames of the kernel, of its print over the
  extended reals and of the reference, that the two prints have the same operations, and that over the extended reals the
  kernel and the reference have the same three results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Select.Frame
public import proofs.«01_k».proof.Proof.Printed.Frame
public import proofs.«01_k».proof.Proof.Score.Value
public import proofs.«01_k».proof.Proof.Score.Precondition
public import Idealize.ShloMosaic.Adequacy
public import Idealize.ShloMosaic.Init

@[expose] public section

noncomputable section

namespace Cert.Proof

open Idealize.ShloMosaic Idealize.SL.Sem

/-- The frame of the kernel as printed. -/
theorem frame_kernel : Cert.quiescent_Kernel (hKernel := Cert.Kernel.Gen.facts) := fun m ρ _ => Cert.Kernel.Select.frame_main m ρ

/-- The frame of the kernel over the extended reals. -/
theorem frame_kernelIdeal : Cert.quiescent_KernelIdeal (hKernelIdeal := Cert.KernelIdeal.Gen.facts) :=
  fun m ρ _ => Cert.KernelIdeal.Select.frame_main m ρ

/-- The frame of the reference: its run, and no counter to move since it declares no semaphore. -/
theorem frame_reference : Cert.quiescent_ReferenceIdeal (hReferenceIdeal := Cert.ReferenceIdeal.Gen.facts) := fun m ρ _ =>
  (θ_run _ _ _).mono (fun r h => ⟨fun c => ⟨(h c).2.2.2.1, (h c).2.2.2.2.1, (h c).2.2.2.2.2.1, (h c).2.2.2.2.2.2⟩,
    sem_eq_zero_of_no_sems (by decide) r.2⟩) (Cert.ReferenceIdeal.Value.run m ρ)

/-- The kernel's frame of the arguments the precondition admits. -/
theorem frame_kernelIdeal_pre : Cert.quiescent_KernelIdeal_pre_scores_above_bottom (hKernelIdeal := Cert.KernelIdeal.Gen.facts)
    (hPre_scores_above_bottom := Cert.Precondition.facts) := fun m ρ _ => Cert.KernelIdeal.Select.frame_main m ρ

/-- The reference's frame of them. -/
theorem frame_reference_pre : Cert.quiescent_ReferenceIdeal_pre_scores_above_bottom (hReferenceIdeal := Cert.ReferenceIdeal.Gen.facts)
    (hPre_scores_above_bottom := Cert.Precondition.facts) := fun m ρ _ => frame_reference m ρ trivial

/-- The value claim: over the extended reals, from arguments the precondition admits, the kernel and the reference leave
    the same points, the same edge list and the same values. -/
theorem value : Cert.algebraic_KernelIdeal_ReferenceIdeal_pre_scores_above_bottom (hKernelIdeal := Cert.KernelIdeal.Gen.facts)
    (hReferenceIdeal := Cert.ReferenceIdeal.Gen.facts) (hPre_scores_above_bottom := Cert.Precondition.facts) := by
  intro m g m' g' hpre hargs
  letI := Cert.Precondition.facts
  refine ⟨fun c => m ((c.tc : Thread Cert.KernelIdeal.nD Cert.KernelIdeal.τ).loc Cert.KernelIdeal.main_arg0),
    fun c => Cert.KernelIdeal.Select.edges (Cert.KernelIdeal.Select.topPositions m c), fun c => Cert.KernelIdeal.Select.topValues m c, ?_, ?_⟩
  · refine (θ_run _ _ _).mono (fun r h c => ⟨(h.1.1 c).1, (h.2 c).1, (h.2 c).2, (h.1.1 c).1, (h.1.1 c).2.1, (h.1.1 c).2.2.1, (h.1.1 c).2.2.2⟩)
      (θ_run_and (Cert.KernelIdeal.Select.frame_main m g) (Cert.KernelIdeal.Select.value_main m g
        (fun c i => Cert.Precondition.points_finite (hpre c) i) (fun c i => Cert.Precondition.q_below_one (hpre c) i)))
  · refine (θ_run _ _ _).mono (fun r h c => ?_) (Cert.ReferenceIdeal.Value.run m' g')
    obtain ⟨h0, h1, h2, ha⟩ := h c
    obtain ⟨e0, -, e2, e3⟩ := hargs c
    rw [e0, e2, e3] at h1 h2
    exact ⟨h0.trans e0, h1, h2, ha⟩

/-- Everything the certificate claims. -/
theorem claim : Cert.Claim := ⟨Cert.Kernel.Gen.facts, Cert.KernelIdeal.Gen.facts, Cert.ReferenceIdeal.Gen.facts, Cert.Precondition.facts,
  frame_kernel, frame_kernelIdeal, frame_kernelIdeal_pre, frame_reference, frame_reference_pre, trivial, value⟩

end Cert.Proof

end
